-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_as_drawn [hPre_as_drawn : Cert.Pre_as_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_drawn [hPre_as_drawn : Cert.Pre_as_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_as_drawn [hKernelIdeal : Cert.KernelIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_as_drawn [hReferenceIdeal : Cert.ReferenceIdeal.Facts] [hPre_as_drawn : Cert.Pre_as_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_as_drawn [hKernelIdeal : Cert.KernelIdeal.Facts] [hReferenceIdeal : Cert.ReferenceIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v546) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_as_drawn : Cert.Pre_as_drawn.Facts),
    quiescent_Kernel (hKernel := hKernel)
    ∧ quiescent_KernelIdeal (hKernelIdeal := hKernelIdeal)
    ∧ quiescent_KernelIdeal_pre_as_drawn (hKernelIdeal := hKernelIdeal) (hPre_as_drawn := hPre_as_drawn)
    ∧ quiescent_ReferenceIdeal (hReferenceIdeal := hReferenceIdeal)
    ∧ quiescent_ReferenceIdeal_pre_as_drawn (hReferenceIdeal := hReferenceIdeal) (hPre_as_drawn := hPre_as_drawn)
    ∧ preserves_Kernel_KernelIdeal
    ∧ algebraic_KernelIdeal_ReferenceIdeal_pre_as_drawn (hKernelIdeal := hKernelIdeal) (hReferenceIdeal := hReferenceIdeal) (hPre_as_drawn := hPre_as_drawn)
-- ==== Pre_as_drawn.lean ====
abbrev S768x9 : Shape := ⟨2, ![768, 9]⟩
abbrev S768 : Shape := ⟨1, ![768]⟩
abbrev S3072x3 : Shape := ⟨2, ![3072, 3]⟩
abbrev S768x3 : Shape := ⟨2, ![768, 3]⟩
abbrev S2x3072 : Shape := ⟨2, ![2, 3072]⟩
abbrev S9x32x128 : Shape := ⟨3, ![9, 32, 128]⟩
abbrev S16 : Shape := ⟨1, ![16]⟩
abbrev S16x128 : Shape := ⟨2, ![16, 128]⟩
abbrev S3x8x128 : Shape := ⟨3, ![3, 8, 128]⟩
abbrev S6x128x128 : Shape := ⟨3, ![6, 128, 128]⟩
abbrev S6x128x8 : Shape := ⟨3, ![6, 128, 8]⟩
abbrev S3072 : Shape := ⟨1, ![3072]⟩
abbrev S_ : Shape := ⟨0, ![]⟩
abbrev S1x3072 : Shape := ⟨2, ![1, 3072]⟩

class Facts : Prop where
  bcast_S_S3072 : S_.BroadcastsInDim S3072 (![] : Fin 0 → Fin S3072.rank)
  bcast_S3072_S1x3072_1 : S3072.BroadcastsInDim S1x3072 (![1] : Fin 1 → Fin S1x3072.rank)
  bcast_S_S768x9 : S_.BroadcastsInDim S768x9 (![] : Fin 0 → Fin S768x9.rank)
  reducesTo_S768x9_S_d0_1 : S768x9.ReducesTo [0, 1] S_
  h_S_ : 0 < S_.numel
  bcast_S_S3072x3 : S_.BroadcastsInDim S3072x3 (![] : Fin 0 → Fin S3072x3.rank)
  reducesTo_S3072x3_S_d0_1 : S3072x3.ReducesTo [0, 1] S_
  bcast_S1x3072_S2x3072_0_1 : S1x3072.BroadcastsInDim S2x3072 (![0, 1] : Fin 2 → Fin S2x3072.rank)
  bcast_S_S1x3072 : S_.BroadcastsInDim S1x3072 (![] : Fin 0 → Fin S1x3072.rank)
  reducesTo_S2x3072_S_d0_1 : S2x3072.ReducesTo [0, 1] S_
  bcast_S_S768 : S_.BroadcastsInDim S768 (![] : Fin 0 → Fin S768.rank)
  reducesTo_S768_S_d0 : S768.ReducesTo [0] S_
  bcast_S_S9x32x128 : S_.BroadcastsInDim S9x32x128 (![] : Fin 0 → Fin S9x32x128.rank)
  reducesTo_S9x32x128_S_d0_1_2 : S9x32x128.ReducesTo [0, 1, 2] S_
  bcast_S_S16x128 : S_.BroadcastsInDim S16x128 (![] : Fin 0 → Fin S16x128.rank)
  reducesTo_S16x128_S_d0_1 : S16x128.ReducesTo [0, 1] S_
  bcast_S_S3x8x128 : S_.BroadcastsInDim S3x8x128 (![] : Fin 0 → Fin S3x8x128.rank)
  reducesTo_S3x8x128_S_d0_1_2 : S3x8x128.ReducesTo [0, 1, 2] S_
  bcast_S_S6x128x128 : S_.BroadcastsInDim S6x128x128 (![] : Fin 0 → Fin S6x128x128.rank)
  reducesTo_S6x128x128_S_d0_1_2 : S6x128x128.ReducesTo [0, 1, 2] S_
  bcast_S_S6x128x8 : S_.BroadcastsInDim S6x128x8 (![] : Fin 0 → Fin S6x128x8.rank)
  reducesTo_S6x128x8_S_d0_1_2 : S6x128x8.ReducesTo [0, 1, 2] S_

variable [Facts]

def fn_where {F : FTy → Type} [FloatOps F] (arg0 : IVec S3072 1) (arg1 : IVec S3072 32) (arg2 : IVec S3072 32) : IVec S3072 32 :=
  let v0 : IVec S3072 32 := select arg0 arg1 arg2
  v0

def fn_floor_divide {F : FTy → Type} [FloatOps F] (arg0 : IVec S3072 32) (arg1 : IVec S_ 32) : IVec S3072 32 :=
  let v0 : IVec S_ 32 := id arg1
  let v1 : IVec S3072 32 := broadcastInDim S3072 ![] bcast_S_S3072 v0
  let v2 : IVec S3072 32 := Host.divsi arg0 v1
  let v3 : IVec S3072 32 := signi arg0
  let v4 : IVec S_ 32 := signi v0
  let v5 : IVec S3072 32 := broadcastInDim S3072 ![] bcast_S_S3072 v4
  let v6 : IVec S3072 1 := cmpi .ne v3 v5
  let v7 : IVec S3072 32 := broadcastInDim S3072 ![] bcast_S_S3072 v0
  let v8 : IVec S3072 32 := Host.remsi arg0 v7
  let c : IVec S_ 32 := constantI S_ 32 0#32
  let v9 : IVec S3072 32 := broadcastInDim S3072 ![] bcast_S_S3072 c
  let v10 : IVec S3072 1 := cmpi .ne v8 v9
  let v11 : IVec S3072 1 := andi v6 v10
  let c_0 : IVec S_ 32 := constantI S_ 32 1#32
  let v12 : IVec S3072 32 := broadcastInDim S3072 ![] bcast_S_S3072 c_0
  let v13 : IVec S3072 32 := subi v2 v12
  let v14 : IVec S3072 32 := fn_where (F := F) v11 v13 v2
  v14

def fn_where_1 {F : FTy → Type} [FloatOps F] (arg0 : IVec S768 1) (arg1 : IVec S768 32) (arg2 : IVec S768 32) : IVec S768 32 :=
  let v0 : IVec S768 32 := select arg0 arg1 arg2
  v0

def fn_floor_divide_0 {F : FTy → Type} [FloatOps F] (arg0 : IVec S768 32) (arg1 : IVec S_ 32) : IVec S768 32 :=
  let v0 : IVec S_ 32 := id arg1
  let v1 : IVec S768 32 := broadcastInDim S768 ![] bcast_S_S768 v0
  let v2 : IVec S768 32 := Host.divsi arg0 v1
  let v3 : IVec S768 32 := signi arg0
  let v4 : IVec S_ 32 := signi v0
  let v5 : IVec S768 32 := broadcastInDim S768 ![] bcast_S_S768 v4
  let v6 : IVec S768 1 := cmpi .ne v3 v5
  let v7 : IVec S768 32 := broadcastInDim S768 ![] bcast_S_S768 v0
  let v8 : IVec S768 32 := Host.remsi arg0 v7
  let c : IVec S_ 32 := constantI S_ 32 0#32
  let v9 : IVec S768 32 := broadcastInDim S768 ![] bcast_S_S768 c
  let v10 : IVec S768 1 := cmpi .ne v8 v9
  let v11 : IVec S768 1 := andi v6 v10
  let c_0 : IVec S_ 32 := constantI S_ 32 1#32
  let v12 : IVec S768 32 := broadcastInDim S768 ![] bcast_S_S768 c_0
  let v13 : IVec S768 32 := subi v2 v12
  let v14 : IVec S768 32 := fn_where_1 (F := F) v11 v13 v2
  v14

def fn_part4 {F : FTy → Type} [FloatOps F] (main_arg16 : FVec F S6x128x8 .f32) (main_arg17 : FVec F S6x128x128 .f32) (main_v66 : IVec S_ 1) (main_v67 : FVec F S6x128x128 .f32) (main_v68 : FVec F S6x128x128 .f32) : IVec S_ 1 :=
  let main_v69 : IVec S6x128x128 1 := cmpf .olt main_v67 main_v68
  let main_c_25 : IVec S_ 1 := constantI S_ 1 1#1
  let main_v70 : IVec S_ 1 := (fun x v => Host.reduce IntOp.andi x v reducesTo_S6x128x128_S_d0_1_2 h_S_) main_v69 main_c_25
  let main_v71 : IVec S_ 1 := andi main_v66 main_v70
  let main_v72 : FVec F S6x128x8 .f32 := Host.absf main_arg16
  let main_cst_26 : FVec F S_ .f32 := constant S_ .f32 0x7F800000#32
  let main_v73 : FVec F S6x128x8 .f32 := broadcastInDim S6x128x8 ![] bcast_S_S6x128x8 main_cst_26
  let main_v74 : IVec S6x128x8 1 := cmpf .olt main_v72 main_v73
  let main_c_27 : IVec S_ 1 := constantI S_ 1 1#1
  let main_v75 : IVec S_ 1 := (fun x v => Host.reduce IntOp.andi x v reducesTo_S6x128x8_S_d0_1_2 h_S_) main_v74 main_c_27
  let main_v76 : IVec S_ 1 := andi main_v71 main_v75
  let main_v77 : FVec F S6x128x128 .f32 := Host.absf main_arg17
  let main_cst_28 : FVec F S_ .f32 := constant S_ .f32 0x7F800000#32
  let main_v78 : FVec F S6x128x128 .f32 := broadcastInDim S6x128x128 ![] bcast_S_S6x128x128 main_cst_28
  let main_v79 : IVec S6x128x128 1 := cmpf .olt main_v77 main_v78
  let main_c_29 : IVec S_ 1 := constantI S_ 1 1#1
  let main_v80 : IVec S_ 1 := (fun x v => Host.reduce IntOp.andi x v reducesTo_S6x128x128_S_d0_1_2 h_S_) main_v79 main_c_29
  let main_v81 : IVec S_ 1 := andi main_v76 main_v80
  main_v81

def fn_part3 {F : FTy → Type} [FloatOps F] (main_arg12 : FVec F S6x128x128 .f32) (main_arg13 : FVec F S6x128x128 .f32) (main_arg14 : FVec F S6x128x128 .f32) (main_arg15 : FVec F S6x128x128 .f32) (main_arg16 : FVec F S6x128x8 .f32) (main_arg17 : FVec F S6x128x128 .f32) (main_v51 : IVec S_ 1) : IVec S_ 1 :=
  let main_v52 : FVec F S6x128x128 .f32 := Host.absf main_arg12
  let main_cst_18 : FVec F S_ .f32 := constant S_ .f32 0x7F800000#32
  let main_v53 : FVec F S6x128x128 .f32 := broadcastInDim S6x128x128 ![] bcast_S_S6x128x128 main_cst_18
  let main_v54 : IVec S6x128x128 1 := cmpf .olt main_v52 main_v53
  let main_c_19 : IVec S_ 1 := constantI S_ 1 1#1
  let main_v55 : IVec S_ 1 := (fun x v => Host.reduce IntOp.andi x v reducesTo_S6x128x128_S_d0_1_2 h_S_) main_v54 main_c_19
  let main_v56 : IVec S_ 1 := andi main_v51 main_v55
  let main_v57 : FVec F S6x128x128 .f32 := Host.absf main_arg13
  let main_cst_20 : FVec F S_ .f32 := constant S_ .f32 0x7F800000#32
  let main_v58 : FVec F S6x128x128 .f32 := broadcastInDim S6x128x128 ![] bcast_S_S6x128x128 main_cst_20
  let main_v59 : IVec S6x128x128 1 := cmpf .olt main_v57 main_v58
  let main_c_21 : IVec S_ 1 := constantI S_ 1 1#1
  let main_v60 : IVec S_ 1 := (fun x v => Host.reduce IntOp.andi x v reducesTo_S6x128x128_S_d0_1_2 h_S_) main_v59 main_c_21
  let main_v61 : IVec S_ 1 := andi main_v56 main_v60
  let main_v62 : FVec F S6x128x128 .f32 := Host.absf main_arg14
  let main_cst_22 : FVec F S_ .f32 := constant S_ .f32 0x7F800000#32
  let main_v63 : FVec F S6x128x128 .f32 := broadcastInDim S6x128x128 ![] bcast_S_S6x128x128 main_cst_22
  let main_v64 : IVec S6x128x128 1 := cmpf .olt main_v62 main_v63
  let main_c_23 : IVec S_ 1 := constantI S_ 1 1#1
  let main_v65 : IVec S_ 1 := (fun x v => Host.reduce IntOp.andi x v reducesTo_S6x128x128_S_d0_1_2 h_S_) main_v64 main_c_23
  let main_v66 : IVec S_ 1 := andi main_v61 main_v65
  let main_v67 : FVec F S6x128x128 .f32 := Host.absf main_arg15
  let main_cst_24 : FVec F S_ .f32 := constant S_ .f32 0x7F800000#32
  let main_v68 : FVec F S6x128x128 .f32 := broadcastInDim S6x128x128 ![] bcast_S_S6x128x128 main_cst_24
  fn_part4 (F := F) main_arg16 main_arg17 main_v66 main_v67 main_v68

def fn_part2 {F : FTy → Type} [FloatOps F] (main_arg8 : FVec F S16x128 .f32) (main_arg9 : FVec F S3x8x128 .f32) (main_arg11 : FVec F S16x128 .f32) (main_arg12 : FVec F S6x128x128 .f32) (main_arg13 : FVec F S6x128x128 .f32) (main_arg14 : FVec F S6x128x128 .f32) (main_arg15 : FVec F S6x128x128 .f32) (main_arg16 : FVec F S6x128x8 .f32) (main_arg17 : FVec F S6x128x128 .f32) (main_v31 : IVec S_ 1) (main_v34 : IVec S9x32x128 1) : IVec S_ 1 :=
  let main_c_11 : IVec S_ 1 := constantI S_ 1 1#1
  let main_v35 : IVec S_ 1 := (fun x v => Host.reduce IntOp.andi x v reducesTo_S9x32x128_S_d0_1_2 h_S_) main_v34 main_c_11
  let main_v36 : IVec S_ 1 := andi main_v31 main_v35
  let main_v37 : FVec F S16x128 .f32 := Host.absf main_arg8
  let main_cst_12 : FVec F S_ .f32 := constant S_ .f32 0x7F800000#32
  let main_v38 : FVec F S16x128 .f32 := broadcastInDim S16x128 ![] bcast_S_S16x128 main_cst_12
  let main_v39 : IVec S16x128 1 := cmpf .olt main_v37 main_v38
  let main_c_13 : IVec S_ 1 := constantI S_ 1 1#1
  let main_v40 : IVec S_ 1 := (fun x v => Host.reduce IntOp.andi x v reducesTo_S16x128_S_d0_1 h_S_) main_v39 main_c_13
  let main_v41 : IVec S_ 1 := andi main_v36 main_v40
  let main_v42 : FVec F S3x8x128 .f32 := Host.absf main_arg9
  let main_cst_14 : FVec F S_ .f32 := constant S_ .f32 0x7F800000#32
  let main_v43 : FVec F S3x8x128 .f32 := broadcastInDim S3x8x128 ![] bcast_S_S3x8x128 main_cst_14
  let main_v44 : IVec S3x8x128 1 := cmpf .olt main_v42 main_v43
  let main_c_15 : IVec S_ 1 := constantI S_ 1 1#1
  let main_v45 : IVec S_ 1 := (fun x v => Host.reduce IntOp.andi x v reducesTo_S3x8x128_S_d0_1_2 h_S_) main_v44 main_c_15
  let main_v46 : IVec S_ 1 := andi main_v41 main_v45
  let main_v47 : FVec F S16x128 .f32 := Host.absf main_arg11
  let main_cst_16 : FVec F S_ .f32 := constant S_ .f32 0x7F800000#32
  let main_v48 : FVec F S16x128 .f32 := broadcastInDim S16x128 ![] bcast_S_S16x128 main_cst_16
  let main_v49 : IVec S16x128 1 := cmpf .olt main_v47 main_v48
  let main_c_17 : IVec S_ 1 := constantI S_ 1 1#1
  let main_v50 : IVec S_ 1 := (fun x v => Host.reduce IntOp.andi x v reducesTo_S16x128_S_d0_1 h_S_) main_v49 main_c_17
  let main_v51 : IVec S_ 1 := andi main_v46 main_v50
  fn_part3 (F := F) main_arg12 main_arg13 main_arg14 main_arg15 main_arg16 main_arg17 main_v51

def fn_part1 {F : FTy → Type} [FloatOps F] (main_arg4 : IVec S2x3072 32) (main_arg5 : IVec S768 32) (main_arg6 : FVec F S9x32x128 .f32) (main_arg8 : FVec F S16x128 .f32) (main_arg9 : FVec F S3x8x128 .f32) (main_arg11 : FVec F S16x128 .f32) (main_arg12 : FVec F S6x128x128 .f32) (main_arg13 : FVec F S6x128x128 .f32) (main_arg14 : FVec F S6x128x128 .f32) (main_arg15 : FVec F S6x128x128 .f32) (main_arg16 : FVec F S6x128x8 .f32) (main_arg17 : FVec F S6x128x128 .f32) (main_v4 : IVec S1x3072 32) (main_v10 : IVec S_ 1) (main_v15 : IVec S3072x3 1) (main_c_6 : IVec S_ 1) : IVec S_ 1 :=
  let main_v16 : IVec S_ 1 := (fun x v => Host.reduce IntOp.andi x v reducesTo_S3072x3_S_d0_1 h_S_) main_v15 main_c_6
  let main_v17 : IVec S_ 1 := andi main_v10 main_v16
  let main_v18 : IVec S2x3072 32 := broadcastInDim S2x3072 ![0, 1] bcast_S1x3072_S2x3072_0_1 main_v4
  let main_v19 : IVec S2x3072 1 := cmpi .sge main_arg4 main_v18
  let main_c_7 : IVec S_ 32 := constantI S_ 32 48#32
  let main_v20 : IVec S1x3072 32 := broadcastInDim S1x3072 ![] bcast_S_S1x3072 main_c_7
  let main_v21 : IVec S1x3072 32 := addi main_v4 main_v20
  let main_v22 : IVec S2x3072 32 := broadcastInDim S2x3072 ![0, 1] bcast_S1x3072_S2x3072_0_1 main_v21
  let main_v23 : IVec S2x3072 1 := cmpi .slt main_arg4 main_v22
  let main_v24 : IVec S2x3072 1 := andi main_v19 main_v23
  let main_c_8 : IVec S_ 1 := constantI S_ 1 1#1
  let main_v25 : IVec S_ 1 := (fun x v => Host.reduce IntOp.andi x v reducesTo_S2x3072_S_d0_1 h_S_) main_v24 main_c_8
  let main_v26 : IVec S_ 1 := andi main_v17 main_v25
  let main_v27 : IVec S768 32 := iotaInDim S768 32 0
  let main_c_9 : IVec S_ 32 := constantI S_ 32 48#32
  let main_v28 : IVec S768 32 := fn_floor_divide_0 (F := F) main_v27 main_c_9
  let main_v29 : IVec S768 1 := cmpi .eq main_arg5 main_v28
  let main_c_10 : IVec S_ 1 := constantI S_ 1 1#1
  let main_v30 : IVec S_ 1 := (fun x v => Host.reduce IntOp.andi x v reducesTo_S768_S_d0 h_S_) main_v29 main_c_10
  let main_v31 : IVec S_ 1 := andi main_v26 main_v30
  let main_v32 : FVec F S9x32x128 .f32 := Host.absf main_arg6
  let main_cst : FVec F S_ .f32 := constant S_ .f32 0x7F800000#32
  let main_v33 : FVec F S9x32x128 .f32 := broadcastInDim S9x32x128 ![] bcast_S_S9x32x128 main_cst
  let main_v34 : IVec S9x32x128 1 := cmpf .olt main_v32 main_v33
  fn_part2 (F := F) main_arg8 main_arg9 main_arg11 main_arg12 main_arg13 main_arg14 main_arg15 main_arg16 main_arg17 main_v31 main_v34

def fn {F : FTy → Type} [FloatOps F] (main_arg0 : IVec S768x9 32) (main_arg1 : FVec F S768 .f32) (main_arg2 : IVec S3072x3 32) (main_arg3 : FVec F S768x3 .f32) (main_arg4 : IVec S2x3072 32) (main_arg5 : IVec S768 32) (main_arg6 : FVec F S9x32x128 .f32) (main_arg7 : FVec F S16 .f32) (main_arg8 : FVec F S16x128 .f32) (main_arg9 : FVec F S3x8x128 .f32) (main_arg10 : FVec F S16 .f32) (main_arg11 : FVec F S16x128 .f32) (main_arg12 : FVec F S6x128x128 .f32) (main_arg13 : FVec F S6x128x128 .f32) (main_arg14 : FVec F S6x128x128 .f32) (main_arg15 : FVec F S6x128x128 .f32) (main_arg16 : FVec F S6x128x8 .f32) (main_arg17 : FVec F S6x128x128 .f32) : IVec S_ 1 :=
  let main_v0 : IVec S3072 32 := iotaInDim S3072 32 0
  let main_c : IVec S_ 32 := constantI S_ 32 192#32
  let main_v1 : IVec S3072 32 := fn_floor_divide (F := F) main_v0 main_c
  let main_c_0 : IVec S_ 32 := constantI S_ 32 48#32
  let main_v2 : IVec S3072 32 := broadcastInDim S3072 ![] bcast_S_S3072 main_c_0
  let main_v3 : IVec S3072 32 := muli main_v1 main_v2
  let main_v4 : IVec S1x3072 32 := broadcastInDim S1x3072 ![1] bcast_S3072_S1x3072_1 main_v3
  let main_c_1 : IVec S_ 32 := constantI S_ 32 0#32
  let main_v5 : IVec S768x9 32 := broadcastInDim S768x9 ![] bcast_S_S768x9 main_c_1
  let main_v6 : IVec S768x9 1 := cmpi .sge main_arg0 main_v5
  let main_c_2 : IVec S_ 32 := constantI S_ 32 32#32
  let main_v7 : IVec S768x9 32 := broadcastInDim S768x9 ![] bcast_S_S768x9 main_c_2
  let main_v8 : IVec S768x9 1 := cmpi .slt main_arg0 main_v7
  let main_v9 : IVec S768x9 1 := andi main_v6 main_v8
  let main_c_3 : IVec S_ 1 := constantI S_ 1 1#1
  let main_v10 : IVec S_ 1 := (fun x v => Host.reduce IntOp.andi x v reducesTo_S768x9_S_d0_1 h_S_) main_v9 main_c_3
  let main_c_4 : IVec S_ 32 := constantI S_ 32 0#32
  let main_v11 : IVec S3072x3 32 := broadcastInDim S3072x3 ![] bcast_S_S3072x3 main_c_4
  let main_v12 : IVec S3072x3 1 := cmpi .sge main_arg2 main_v11
  let main_c_5 : IVec S_ 32 := constantI S_ 32 8#32
  let main_v13 : IVec S3072x3 32 := broadcastInDim S3072x3 ![] bcast_S_S3072x3 main_c_5
  let main_v14 : IVec S3072x3 1 := cmpi .slt main_arg2 main_v13
  let main_v15 : IVec S3072x3 1 := andi main_v12 main_v14
  let main_c_6 : IVec S_ 1 := constantI S_ 1 1#1
  fn_part1 (F := F) main_arg4 main_arg5 main_arg6 main_arg8 main_arg9 main_arg11 main_arg12 main_arg13 main_arg14 main_arg15 main_arg16 main_arg17 main_v4 main_v10 main_v15 main_c_6
-- ==== Kernel.lean ====
abbrev S768x9 : Shape := ⟨2, ![768, 9]⟩
abbrev S768 : Shape := ⟨1, ![768]⟩
abbrev S3072x3 : Shape := ⟨2, ![3072, 3]⟩
abbrev S768x3 : Shape := ⟨2, ![768, 3]⟩
abbrev S2x3072 : Shape := ⟨2, ![2, 3072]⟩
abbrev S9x32x128 : Shape := ⟨3, ![9, 32, 128]⟩
abbrev S16 : Shape := ⟨1, ![16]⟩
abbrev S16x128 : Shape := ⟨2, ![16, 128]⟩
abbrev S3x8x128 : Shape := ⟨3, ![3, 8, 128]⟩
abbrev S6x128x128 : Shape := ⟨3, ![6, 128, 128]⟩
abbrev S6x128x8 : Shape := ⟨3, ![6, 128, 8]⟩
abbrev S8x96x9 : Shape := ⟨3, ![8, 96, 9]⟩
abbrev S8x96x1 : Shape := ⟨3, ![8, 96, 1]⟩
abbrev S8x2x192x3 : Shape := ⟨4, ![8, 2, 192, 3]⟩
abbrev S8x96x3 : Shape := ⟨3, ![8, 96, 3]⟩
abbrev S1x3072 : Shape := ⟨2, ![1, 3072]⟩
abbrev S3072 : Shape := ⟨1, ![3072]⟩
abbrev S_ : Shape := ⟨0, ![]⟩
abbrev S8x2x192x1 : Shape := ⟨4, ![8, 2, 192, 1]⟩
abbrev S1x16 : Shape := ⟨2, ![1, 16]⟩
abbrev S8x96x128 : Shape := ⟨3, ![8, 96, 128]⟩
abbrev S1x96x9 : Shape := ⟨3, ![1, 96, 9]⟩
abbrev S1x96x1 : Shape := ⟨3, ![1, 96, 1]⟩
abbrev S1x96x3 : Shape := ⟨3, ![1, 96, 3]⟩
abbrev S1x2x192x3 : Shape := ⟨4, ![1, 2, 192, 3]⟩
abbrev S1x2x192x1 : Shape := ⟨4, ![1, 2, 192, 1]⟩
abbrev S1x96x128 : Shape := ⟨3, ![1, 96, 128]⟩
abbrev S96x9 : Shape := ⟨2, ![96, 9]⟩
abbrev S96x32 : Shape := ⟨2, ![96, 32]⟩
abbrev S96x128 : Shape := ⟨2, ![96, 128]⟩
abbrev S96x1 : Shape := ⟨2, ![96, 1]⟩
abbrev S1x32x128 : Shape := ⟨3, ![1, 32, 128]⟩
abbrev S32x128 : Shape := ⟨2, ![32, 128]⟩
abbrev S96x16 : Shape := ⟨2, ![96, 16]⟩
abbrev S96x3 : Shape := ⟨2, ![96, 3]⟩
abbrev S96x1x3 : Shape := ⟨3, ![96, 1, 3]⟩
abbrev S96x48x3 : Shape := ⟨3, ![96, 48, 3]⟩
abbrev S4608x3 : Shape := ⟨2, ![4608, 3]⟩
abbrev S2x1x48x3 : Shape := ⟨4, ![2, 1, 48, 3]⟩
abbrev S2x48x48x3 : Shape := ⟨4, ![2, 48, 48, 3]⟩
abbrev S4608 : Shape := ⟨1, ![4608]⟩
abbrev S4608x1 : Shape := ⟨2, ![4608, 1]⟩
abbrev S4608x16 : Shape := ⟨2, ![4608, 16]⟩
abbrev S4608x128 : Shape := ⟨2, ![4608, 128]⟩
abbrev S2x192x3 : Shape := ⟨3, ![2, 192, 3]⟩
abbrev S384x3 : Shape := ⟨2, ![384, 3]⟩
abbrev S384x8 : Shape := ⟨2, ![384, 8]⟩
abbrev S384x128 : Shape := ⟨2, ![384, 128]⟩
abbrev S384x1 : Shape := ⟨2, ![384, 1]⟩
abbrev S1x8x128 : Shape := ⟨3, ![1, 8, 128]⟩
abbrev S8x128 : Shape := ⟨2, ![8, 128]⟩
abbrev S192x2304 : Shape := ⟨2, ![192, 2304]⟩
abbrev S1x1x192x1 : Shape := ⟨4, ![1, 1, 192, 1]⟩
abbrev S192x1 : Shape := ⟨2, ![192, 1]⟩
abbrev S192x128 : Shape := ⟨2, ![192, 128]⟩
abbrev S2304x128 : Shape := ⟨2, ![2304, 128]⟩
abbrev S48x128 : Shape := ⟨2, ![48, 128]⟩
abbrev S1x128x128 : Shape := ⟨3, ![1, 128, 128]⟩
abbrev S128x128 : Shape := ⟨2, ![128, 128]⟩
abbrev S1x128x8 : Shape := ⟨3, ![1, 128, 8]⟩
abbrev S128x8 : Shape := ⟨2, ![128, 8]⟩
abbrev S48 : Shape := ⟨1, ![48]⟩
abbrev S48x1 : Shape := ⟨2, ![48, 1]⟩
abbrev S48x1x128 : Shape := ⟨3, ![48, 1, 128]⟩
abbrev S48x8x128 : Shape := ⟨3, ![48, 8, 128]⟩
abbrev S384x48 : Shape := ⟨2, ![384, 48]⟩
abbrev S2304x8 : Shape := ⟨2, ![2304, 8]⟩
abbrev S48x48x8 : Shape := ⟨3, ![48, 48, 8]⟩
abbrev S48x8x48 : Shape := ⟨3, ![48, 8, 48]⟩
abbrev S48x8 : Shape := ⟨2, ![48, 8]⟩
abbrev S1x48x128 : Shape := ⟨3, ![1, 48, 128]⟩
abbrev S48x48x128 : Shape := ⟨3, ![48, 48, 128]⟩

abbrev nBuf : Space → Nat
  | .hbm => 78
  | .vmem => 24
  | .smem => 0
  | _ => 0

abbrev bufTy : (tb : Table) → Fin (tcTables nBuf tb) → BufTy
  | .hbm, ⟨0, _⟩ => ⟨S768x9, .i32⟩
  | .hbm, ⟨1, _⟩ => ⟨S768, .f32⟩
  | .hbm, ⟨2, _⟩ => ⟨S3072x3, .i32⟩
  | .hbm, ⟨3, _⟩ => ⟨S768x3, .f32⟩
  | .hbm, ⟨4, _⟩ => ⟨S2x3072, .i32⟩
  | .hbm, ⟨5, _⟩ => ⟨S768, .i32⟩
  | .hbm, ⟨6, _⟩ => ⟨S9x32x128, .f32⟩
  | .hbm, ⟨7, _⟩ => ⟨S16, .f32⟩
  | .hbm, ⟨8, _⟩ => ⟨S16x128, .f32⟩
  | .hbm, ⟨9, _⟩ => ⟨S3x8x128, .f32⟩
  | .hbm, ⟨10, _⟩ => ⟨S16, .f32⟩
  | .hbm, ⟨11, _⟩ => ⟨S16x128, .f32⟩
  | .hbm, ⟨12, _⟩ => ⟨S6x128x128, .f32⟩
  | .hbm, ⟨13, _⟩ => ⟨S6x128x128, .f32⟩
  | .hbm, ⟨14, _⟩ => ⟨S6x128x128, .f32⟩
  | .hbm, ⟨15, _⟩ => ⟨S6x128x128, .f32⟩
  | .hbm, ⟨16, _⟩ => ⟨S6x128x8, .f32⟩
  | .hbm, ⟨17, _⟩ => ⟨S6x128x128, .f32⟩
  | .hbm, ⟨18, _⟩ => ⟨S8x96x9, .i32⟩
  | .hbm, ⟨19, _⟩ => ⟨S8x96x1, .f32⟩
  | .hbm, ⟨20, _⟩ => ⟨S8x2x192x3, .i32⟩
  | .hbm, ⟨21, _⟩ => ⟨S8x96x3, .f32⟩
  | .hbm, ⟨22, _⟩ => ⟨S1x3072, .i32⟩
  | .hbm, ⟨23, _⟩ => ⟨S3072, .i32⟩
  | .hbm, ⟨24, _⟩ => ⟨S1x3072, .i32⟩
  | .hbm, ⟨25, _⟩ => ⟨S3072, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S3072, .i32⟩
  | .hbm, ⟨33, _⟩ => ⟨S3072, .i32⟩
  | .hbm, ⟨34, _⟩ => ⟨S_, .i32⟩
  | .hbm, ⟨35, _⟩ => ⟨S3072, .i32⟩
  | .hbm, ⟨36, _⟩ => ⟨S3072, .i1⟩
  | .hbm, ⟨37, _⟩ => ⟨S_, .i32⟩
  | .hbm, ⟨38, _⟩ => ⟨S3072, .i32⟩
  | .hbm, ⟨39, _⟩ => ⟨S3072, .i1⟩
  | .hbm, ⟨40, _⟩ => ⟨S_, .i32⟩
  | .hbm, ⟨41, _⟩ => ⟨S_, .i1⟩
  | .hbm, ⟨42, _⟩ => ⟨S3072, .i1⟩
  | .hbm, ⟨43, _⟩ => ⟨S3072, .i1⟩
  | .hbm, ⟨44, _⟩ => ⟨S3072, .i1⟩
  | .hbm, ⟨45, _⟩ => ⟨S3072, .i32⟩
  | .hbm, ⟨46, _⟩ => ⟨S3072, .i32⟩
  | .hbm, ⟨47, _⟩ => ⟨S3072, .i32⟩
  | .hbm, ⟨48, _⟩ => ⟨S_, .i32⟩
  | .hbm, ⟨49, _⟩ => ⟨S3072, .i32⟩
  | .hbm, ⟨50, _⟩ => ⟨S3072, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S3072, .i32⟩
  | .hbm, ⟨58, _⟩ => ⟨S3072, .i32⟩
  | .hbm, ⟨59, _⟩ => ⟨S_, .i32⟩
  | .hbm, ⟨60, _⟩ => ⟨S3072, .i32⟩
  | .hbm, ⟨61, _⟩ => ⟨S3072, .i1⟩
  | .hbm, ⟨62, _⟩ => ⟨S_, .i32⟩
  | .hbm, ⟨63, _⟩ => ⟨S3072, .i32⟩
  | .hbm, ⟨64, _⟩ => ⟨S3072, .i1⟩
  | .hbm, ⟨65, _⟩ => ⟨S_, .i32⟩
  | .hbm, ⟨66, _⟩ => ⟨S_, .i1⟩
  | .hbm, ⟨67, _⟩ => ⟨S3072, .i1⟩
  | .hbm, ⟨68, _⟩ => ⟨S3072, .i1⟩
  | .hbm, ⟨69, _⟩ => ⟨S3072, .i1⟩
  | .hbm, ⟨70, _⟩ => ⟨S3072, .i32⟩
  | .hbm, ⟨71, _⟩ => ⟨S3072, .i32⟩
  | .hbm, ⟨72, _⟩ => ⟨S3072, .i32⟩
  | .hbm, ⟨73, _⟩ => ⟨S3072, .i32⟩
  | .hbm, ⟨74, _⟩ => ⟨S8x2x192x1, .i32⟩
  | .hbm, ⟨75, _⟩ => ⟨S1x16, .f32⟩
  | .hbm, ⟨76, _⟩ => ⟨S1x16, .f32⟩
  | .hbm, ⟨77, _⟩ => ⟨S8x96x128, .f32⟩
  | .local _ .vmem, ⟨0, _⟩ => ⟨S1x96x9, .i32⟩
  | .local _ .vmem, ⟨1, _⟩ => ⟨S1x96x9, .i32⟩
  | .local _ .vmem, ⟨2, _⟩ => ⟨S1x96x1, .f32⟩
  | .local _ .vmem, ⟨3, _⟩ => ⟨S1x96x1, .f32⟩
  | .local _ .vmem, ⟨4, _⟩ => ⟨S1x96x3, .f32⟩
  | .local _ .vmem, ⟨5, _⟩ => ⟨S1x96x3, .f32⟩
  | .local _ .vmem, ⟨6, _⟩ => ⟨S1x2x192x3, .i32⟩
  | .local _ .vmem, ⟨7, _⟩ => ⟨S1x2x192x3, .i32⟩
  | .local _ .vmem, ⟨8, _⟩ => ⟨S1x2x192x1, .i32⟩
  | .local _ .vmem, ⟨9, _⟩ => ⟨S1x2x192x1, .i32⟩
  | .local _ .vmem, ⟨10, _⟩ => ⟨S9x32x128, .f32⟩
  | .local _ .vmem, ⟨11, _⟩ => ⟨S1x16, .f32⟩
  | .local _ .vmem, ⟨12, _⟩ => ⟨S16x128, .f32⟩
  | .local _ .vmem, ⟨13, _⟩ => ⟨S3x8x128, .f32⟩
  | .local _ .vmem, ⟨14, _⟩ => ⟨S1x16, .f32⟩
  | .local _ .vmem, ⟨15, _⟩ => ⟨S16x128, .f32⟩
  | .local _ .vmem, ⟨16, _⟩ => ⟨S6x128x128, .f32⟩
  | .local _ .vmem, ⟨17, _⟩ => ⟨S6x128x128, .f32⟩
  | .local _ .vmem, ⟨18, _⟩ => ⟨S6x128x128, .f32⟩
  | .local _ .vmem, ⟨19, _⟩ => ⟨S6x128x128, .f32⟩
  | .local _ .vmem, ⟨20, _⟩ => ⟨S6x128x8, .f32⟩
  | .local _ .vmem, ⟨21, _⟩ => ⟨S6x128x128, .f32⟩
  | .local _ .vmem, ⟨22, _⟩ => ⟨S1x96x128, .f32⟩
  | .local _ .vmem, ⟨23, _⟩ => ⟨S1x96x128, .f32⟩
  | _, _ => ⟨S768x9, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_c_1 : Ref sig .tc := ⟨.hbm, 34, rfl⟩
abbrev main_call0_v5 : Ref sig .tc := ⟨.hbm, 35, rfl⟩
abbrev main_call0_v6 : Ref sig .tc := ⟨.hbm, 36, rfl⟩
abbrev main_call0_c_2 : Ref sig .tc := ⟨.hbm, 37, rfl⟩
abbrev main_call0_v7 : Ref sig .tc := ⟨.hbm, 38, rfl⟩
abbrev main_call0_v8 : Ref sig .tc := ⟨.hbm, 39, rfl⟩
abbrev main_call0_c_3 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_v8 : Ref sig .tc := ⟨.hbm, 47, rfl⟩
abbrev main_c_0 : Ref sig .tc := ⟨.hbm, 48, rfl⟩
abbrev main_v9 : Ref sig .tc := ⟨.hbm, 49, rfl⟩
abbrev main_v10 : Ref sig .tc := ⟨.hbm, 50, rfl⟩
abbrev main_c_1 : Ref sig .tc := ⟨.hbm, 51, rfl⟩
abbrev main_call1_v0 : Ref sig .tc := ⟨.hbm, 52, rfl⟩
abbrev main_call1_c : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_c_1 : Ref sig .tc := ⟨.hbm, 59, rfl⟩
abbrev main_call1_v5 : Ref sig .tc := ⟨.hbm, 60, rfl⟩
abbrev main_call1_v6 : Ref sig .tc := ⟨.hbm, 61, rfl⟩
abbrev main_call1_c_2 : Ref sig .tc := ⟨.hbm, 62, rfl⟩
abbrev main_call1_v7 : Ref sig .tc := ⟨.hbm, 63, rfl⟩
abbrev main_call1_v8 : Ref sig .tc := ⟨.hbm, 64, rfl⟩
abbrev main_call1_c_3 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_v11 : Ref sig .tc := ⟨.hbm, 72, rfl⟩
abbrev main_v12 : Ref sig .tc := ⟨.hbm, 73, rfl⟩
abbrev main_v13 : Ref sig .tc := ⟨.hbm, 74, rfl⟩
abbrev main_v14 : Ref sig .tc := ⟨.hbm, 75, rfl⟩
abbrev main_v15 : Ref sig .tc := ⟨.hbm, 76, rfl⟩
abbrev main_v16 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x96x9 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x96x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x96x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x192x3 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x192x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S9x32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S6x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S6x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S6x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S6x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S6x128x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S6x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x96x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceIdeal.lean ====
abbrev S768x9 : Shape := ⟨2, ![768, 9]⟩
abbrev S768 : Shape := ⟨1, ![768]⟩
abbrev S3072x3 : Shape := ⟨2, ![3072, 3]⟩
abbrev S768x3 : Shape := ⟨2, ![768, 3]⟩
abbrev S2x3072 : Shape := ⟨2, ![2, 3072]⟩
abbrev S9x32x128 : Shape := ⟨3, ![9, 32, 128]⟩
abbrev S16 : Shape := ⟨1, ![16]⟩
abbrev S16x128 : Shape := ⟨2, ![16, 128]⟩
abbrev S3x8x128 : Shape := ⟨3, ![3, 8, 128]⟩
abbrev S6x128x128 : Shape := ⟨3, ![6, 128, 128]⟩
abbrev S6x128x8 : Shape := ⟨3, ![6, 128, 8]⟩
abbrev S_ : Shape := ⟨0, ![]⟩
abbrev S768x128 : Shape := ⟨2, ![768, 128]⟩
abbrev S1x32x128 : Shape := ⟨3, ![1, 32, 128]⟩
abbrev S32x128 : Shape := ⟨2, ![32, 128]⟩
abbrev S768x1 : Shape := ⟨2, ![768, 1]⟩
abbrev S1 : Shape := ⟨1, ![1]⟩
abbrev S1x1 : Shape := ⟨2, ![1, 1]⟩
abbrev S1x16 : Shape := ⟨2, ![1, 16]⟩
abbrev S768x16 : Shape := ⟨2, ![768, 16]⟩
abbrev S3072x128 : Shape := ⟨2, ![3072, 128]⟩
abbrev S1x8x128 : Shape := ⟨3, ![1, 8, 128]⟩
abbrev S8x128 : Shape := ⟨2, ![8, 128]⟩
abbrev S3072x1 : Shape := ⟨2, ![3072, 1]⟩
abbrev S3072 : Shape := ⟨1, ![3072]⟩
abbrev S16x48x3 : Shape := ⟨3, ![16, 48, 3]⟩
abbrev S16x48x1x3 : Shape := ⟨4, ![16, 48, 1, 3]⟩
abbrev S16x1x48x3 : Shape := ⟨4, ![16, 1, 48, 3]⟩
abbrev S16x48x48x3 : Shape := ⟨4, ![16, 48, 48, 3]⟩
abbrev S16x48x48 : Shape := ⟨3, ![16, 48, 48]⟩
abbrev S16x48x48x1 : Shape := ⟨4, ![16, 48, 48, 1]⟩
abbrev S1x1x1x16 : Shape := ⟨4, ![1, 1, 1, 16]⟩
abbrev S16x48x48x16 : Shape := ⟨4, ![16, 48, 48, 16]⟩
abbrev S16x48x48x128 : Shape := ⟨4, ![16, 48, 48, 128]⟩
abbrev S1x3072 : Shape := ⟨2, ![1, 3072]⟩
abbrev S16x48x128 : Shape := ⟨3, ![16, 48, 128]⟩
abbrev S16x48 : Shape := ⟨2, ![16, 48]⟩
abbrev S16x48x1 : Shape := ⟨3, ![16, 48, 1]⟩
abbrev S1x128x128 : Shape := ⟨3, ![1, 128, 128]⟩
abbrev S128x128 : Shape := ⟨2, ![128, 128]⟩
abbrev S16x48x8x16 : Shape := ⟨4, ![16, 48, 8, 16]⟩
abbrev S16x8x48x48 : Shape := ⟨4, ![16, 8, 48, 48]⟩
abbrev S1x128x8 : Shape := ⟨3, ![1, 128, 8]⟩
abbrev S128x8 : Shape := ⟨2, ![128, 8]⟩
abbrev S16x48x48x8 : Shape := ⟨4, ![16, 48, 48, 8]⟩
abbrev S16x8x48 : Shape := ⟨3, ![16, 8, 48]⟩
abbrev S16x8x48x1 : Shape := ⟨4, ![16, 8, 48, 1]⟩
abbrev S16x8x16x48 : Shape := ⟨4, ![16, 8, 16, 48]⟩
abbrev S16x48x1x128 : Shape := ⟨4, ![16, 48, 1, 128]⟩
abbrev S16x1x48x128 : Shape := ⟨4, ![16, 1, 48, 128]⟩
abbrev S8x96x128 : Shape := ⟨3, ![8, 96, 128]⟩

abbrev nBuf : Space → Nat
  | .hbm => 911
  | .vmem => 0
  | .smem => 0
  | _ => 0

abbrev hbmTy0_0 (i : Nat) : BufTy := match i % 128 with
  | 0 => ⟨S768x9, .i32⟩
  | 1 => ⟨S768, .f32⟩
  | 2 => ⟨S3072x3, .i32⟩
  | 3 => ⟨S768x3, .f32⟩
  | 4 => ⟨S2x3072, .i32⟩
  | 5 => ⟨S768, .i32⟩
  | 6 => ⟨S9x32x128, .f32⟩
  | 7 => ⟨S16, .f32⟩
  | 8 => ⟨S16x128, .f32⟩
  | 9 => ⟨S3x8x128, .f32⟩
  | 10 => ⟨S16, .f32⟩
  | 11 => ⟨S16x128, .f32⟩
  | 12 => ⟨S6x128x128, .f32⟩
  | 13 => ⟨S6x128x128, .f32⟩
  | 14 => ⟨S6x128x128, .f32⟩
  | 15 => ⟨S6x128x128, .f32⟩
  | 16 => ⟨S6x128x8, .f32⟩
  | 17 => ⟨S6x128x128, .f32⟩
  | 18 => ⟨S_, .f32⟩
  | 19 => ⟨S768x128, .f32⟩
  | 20 => ⟨S1x32x128, .f32⟩
  | 21 => ⟨S32x128, .f32⟩
  | 22 => ⟨S768x1, .i32⟩
  | 23 => ⟨S768, .i32⟩
  | 24 => ⟨S_, .i32⟩
  | 25 => ⟨S768, .i32⟩
  | 26 => ⟨S768, .i1⟩
  | 27 => ⟨S_, .i32⟩
  | 28 => ⟨S768, .i32⟩
  | 29 => ⟨S768, .i32⟩
  | 30 => ⟨S768, .i32⟩
  | 31 => ⟨S768x1, .i32⟩
  | 32 => ⟨S1, .i32⟩
  | 33 => ⟨S_, .i32⟩
  | 34 => ⟨S768x1, .i32⟩
  | 35 => ⟨S768x1, .i1⟩
  | 36 => ⟨S1x1, .i32⟩
  | 37 => ⟨S768x1, .i32⟩
  | 38 => ⟨S768x1, .i1⟩
  | 39 => ⟨S768x1, .i1⟩
  | 40 => ⟨S_, .i1⟩
  | 41 => ⟨S768, .i1⟩
  | 42 => ⟨S768x128, .f32⟩
  | 43 => ⟨S768x128, .i1⟩
  | 44 => ⟨S_, .f32⟩
  | 45 => ⟨S768x128, .f32⟩
  | 46 => ⟨S768x128, .f32⟩
  | 47 => ⟨S768x128, .f32⟩
  | 48 => ⟨S1x32x128, .f32⟩
  | 49 => ⟨S32x128, .f32⟩
  | 50 => ⟨S768x1, .i32⟩
  | 51 => ⟨S768, .i32⟩
  | 52 => ⟨S_, .i32⟩
  | 53 => ⟨S768, .i32⟩
  | 54 => ⟨S768, .i1⟩
  | 55 => ⟨S_, .i32⟩
  | 56 => ⟨S768, .i32⟩
  | 57 => ⟨S768, .i32⟩
  | 58 => ⟨S768, .i32⟩
  | 59 => ⟨S768x1, .i32⟩
  | 60 => ⟨S1, .i32⟩
  | 61 => ⟨S_, .i32⟩
  | 62 => ⟨S768x1, .i32⟩
  | 63 => ⟨S768x1, .i1⟩
  | 64 => ⟨S1x1, .i32⟩
  | 65 => ⟨S768x1, .i32⟩
  | 66 => ⟨S768x1, .i1⟩
  | 67 => ⟨S768x1, .i1⟩
  | 68 => ⟨S_, .i1⟩
  | 69 => ⟨S768, .i1⟩
  | 70 => ⟨S768x128, .f32⟩
  | 71 => ⟨S768x128, .i1⟩
  | 72 => ⟨S_, .f32⟩
  | 73 => ⟨S768x128, .f32⟩
  | 74 => ⟨S768x128, .f32⟩
  | 75 => ⟨S768x128, .f32⟩
  | 76 => ⟨S1x32x128, .f32⟩
  | 77 => ⟨S32x128, .f32⟩
  | 78 => ⟨S768x1, .i32⟩
  | 79 => ⟨S768, .i32⟩
  | 80 => ⟨S_, .i32⟩
  | 81 => ⟨S768, .i32⟩
  | 82 => ⟨S768, .i1⟩
  | 83 => ⟨S_, .i32⟩
  | 84 => ⟨S768, .i32⟩
  | 85 => ⟨S768, .i32⟩
  | 86 => ⟨S768, .i32⟩
  | 87 => ⟨S768x1, .i32⟩
  | 88 => ⟨S1, .i32⟩
  | 89 => ⟨S_, .i32⟩
  | 90 => ⟨S768x1, .i32⟩
  | 91 => ⟨S768x1, .i1⟩
  | 92 => ⟨S1x1, .i32⟩
  | 93 => ⟨S768x1, .i32⟩
  | 94 => ⟨S768x1, .i1⟩
  | 95 => ⟨S768x1, .i1⟩
  | 96 => ⟨S_, .i1⟩
  | 97 => ⟨S768, .i1⟩
  | 98 => ⟨S768x128, .f32⟩
  | 99 => ⟨S768x128, .i1⟩
  | 100 => ⟨S_, .f32⟩
  | 101 => ⟨S768x128, .f32⟩
  | 102 => ⟨S768x128, .f32⟩
  | 103 => ⟨S768x128, .f32⟩
  | 104 => ⟨S1x32x128, .f32⟩
  | 105 => ⟨S32x128, .f32⟩
  | 106 => ⟨S768x1, .i32⟩
  | 107 => ⟨S768, .i32⟩
  | 108 => ⟨S_, .i32⟩
  | 109 => ⟨S768, .i32⟩
  | 110 => ⟨S768, .i1⟩
  | 111 => ⟨S_, .i32⟩
  | 112 => ⟨S768, .i32⟩
  | 113 => ⟨S768, .i32⟩
  | 114 => ⟨S768, .i32⟩
  | 115 => ⟨S768x1, .i32⟩
  | 116 => ⟨S1, .i32⟩
  | 117 => ⟨S_, .i32⟩
  | 118 => ⟨S768x1, .i32⟩
  | 119 => ⟨S768x1, .i1⟩
  | 120 => ⟨S1x1, .i32⟩
  | 121 => ⟨S768x1, .i32⟩
  | 122 => ⟨S768x1, .i1⟩
  | 123 => ⟨S768x1, .i1⟩
  | 124 => ⟨S_, .i1⟩
  | 125 => ⟨S768, .i1⟩
  | 126 => ⟨S768x128, .f32⟩
  | 127 => ⟨S768x128, .i1⟩
  | _ => ⟨S768x9, .i32⟩

abbrev hbmTy0_1 (i : Nat) : BufTy := match i % 128 with
  | 0 => ⟨S_, .f32⟩
  | 1 => ⟨S768x128, .f32⟩
  | 2 => ⟨S768x128, .f32⟩
  | 3 => ⟨S768x128, .f32⟩
  | 4 => ⟨S1x32x128, .f32⟩
  | 5 => ⟨S32x128, .f32⟩
  | 6 => ⟨S768x1, .i32⟩
  | 7 => ⟨S768, .i32⟩
  | 8 => ⟨S_, .i32⟩
  | 9 => ⟨S768, .i32⟩
  | 10 => ⟨S768, .i1⟩
  | 11 => ⟨S_, .i32⟩
  | 12 => ⟨S768, .i32⟩
  | 13 => ⟨S768, .i32⟩
  | 14 => ⟨S768, .i32⟩
  | 15 => ⟨S768x1, .i32⟩
  | 16 => ⟨S1, .i32⟩
  | 17 => ⟨S_, .i32⟩
  | 18 => ⟨S768x1, .i32⟩
  | 19 => ⟨S768x1, .i1⟩
  | 20 => ⟨S1x1, .i32⟩
  | 21 => ⟨S768x1, .i32⟩
  | 22 => ⟨S768x1, .i1⟩
  | 23 => ⟨S768x1, .i1⟩
  | 24 => ⟨S_, .i1⟩
  | 25 => ⟨S768, .i1⟩
  | 26 => ⟨S768x128, .f32⟩
  | 27 => ⟨S768x128, .i1⟩
  | 28 => ⟨S_, .f32⟩
  | 29 => ⟨S768x128, .f32⟩
  | 30 => ⟨S768x128, .f32⟩
  | 31 => ⟨S768x128, .f32⟩
  | 32 => ⟨S1x32x128, .f32⟩
  | 33 => ⟨S32x128, .f32⟩
  | 34 => ⟨S768x1, .i32⟩
  | 35 => ⟨S768, .i32⟩
  | 36 => ⟨S_, .i32⟩
  | 37 => ⟨S768, .i32⟩
  | 38 => ⟨S768, .i1⟩
  | 39 => ⟨S_, .i32⟩
  | 40 => ⟨S768, .i32⟩
  | 41 => ⟨S768, .i32⟩
  | 42 => ⟨S768, .i32⟩
  | 43 => ⟨S768x1, .i32⟩
  | 44 => ⟨S1, .i32⟩
  | 45 => ⟨S_, .i32⟩
  | 46 => ⟨S768x1, .i32⟩
  | 47 => ⟨S768x1, .i1⟩
  | 48 => ⟨S1x1, .i32⟩
  | 49 => ⟨S768x1, .i32⟩
  | 50 => ⟨S768x1, .i1⟩
  | 51 => ⟨S768x1, .i1⟩
  | 52 => ⟨S_, .i1⟩
  | 53 => ⟨S768, .i1⟩
  | 54 => ⟨S768x128, .f32⟩
  | 55 => ⟨S768x128, .i1⟩
  | 56 => ⟨S_, .f32⟩
  | 57 => ⟨S768x128, .f32⟩
  | 58 => ⟨S768x128, .f32⟩
  | 59 => ⟨S768x128, .f32⟩
  | 60 => ⟨S1x32x128, .f32⟩
  | 61 => ⟨S32x128, .f32⟩
  | 62 => ⟨S768x1, .i32⟩
  | 63 => ⟨S768, .i32⟩
  | 64 => ⟨S_, .i32⟩
  | 65 => ⟨S768, .i32⟩
  | 66 => ⟨S768, .i1⟩
  | 67 => ⟨S_, .i32⟩
  | 68 => ⟨S768, .i32⟩
  | 69 => ⟨S768, .i32⟩
  | 70 => ⟨S768, .i32⟩
  | 71 => ⟨S768x1, .i32⟩
  | 72 => ⟨S1, .i32⟩
  | 73 => ⟨S_, .i32⟩
  | 74 => ⟨S768x1, .i32⟩
  | 75 => ⟨S768x1, .i1⟩
  | 76 => ⟨S1x1, .i32⟩
  | 77 => ⟨S768x1, .i32⟩
  | 78 => ⟨S768x1, .i1⟩
  | 79 => ⟨S768x1, .i1⟩
  | 80 => ⟨S_, .i1⟩
  | 81 => ⟨S768, .i1⟩
  | 82 => ⟨S768x128, .f32⟩
  | 83 => ⟨S768x128, .i1⟩
  | 84 => ⟨S_, .f32⟩
  | 85 => ⟨S768x128, .f32⟩
  | 86 => ⟨S768x128, .f32⟩
  | 87 => ⟨S768x128, .f32⟩
  | 88 => ⟨S1x32x128, .f32⟩
  | 89 => ⟨S32x128, .f32⟩
  | 90 => ⟨S768x1, .i32⟩
  | 91 => ⟨S768, .i32⟩
  | 92 => ⟨S_, .i32⟩
  | 93 => ⟨S768, .i32⟩
  | 94 => ⟨S768, .i1⟩
  | 95 => ⟨S_, .i32⟩
  | 96 => ⟨S768, .i32⟩
  | 97 => ⟨S768, .i32⟩
  | 98 => ⟨S768, .i32⟩
  | 99 => ⟨S768x1, .i32⟩
  | 100 => ⟨S1, .i32⟩
  | 101 => ⟨S_, .i32⟩
  | 102 => ⟨S768x1, .i32⟩
  | 103 => ⟨S768x1, .i1⟩
  | 104 => ⟨S1x1, .i32⟩
  | 105 => ⟨S768x1, .i32⟩
  | 106 => ⟨S768x1, .i1⟩
  | 107 => ⟨S768x1, .i1⟩
  | 108 => ⟨S_, .i1⟩
  | 109 => ⟨S768, .i1⟩
  | 110 => ⟨S768x128, .f32⟩
  | 111 => ⟨S768x128, .i1⟩
  | 112 => ⟨S_, .f32⟩
  | 113 => ⟨S768x128, .f32⟩
  | 114 => ⟨S768x128, .f32⟩
  | 115 => ⟨S768x128, .f32⟩
  | 116 => ⟨S1x32x128, .f32⟩
  | 117 => ⟨S32x128, .f32⟩
  | 118 => ⟨S768x1, .i32⟩
  | 119 => ⟨S768, .i32⟩
  | 120 => ⟨S_, .i32⟩
  | 121 => ⟨S768, .i32⟩
  | 122 => ⟨S768, .i1⟩
  | 123 => ⟨S_, .i32⟩
  | 124 => ⟨S768, .i32⟩
  | 125 => ⟨S768, .i32⟩
  | 126 => ⟨S768, .i32⟩
  | 127 => ⟨S768x1, .i32⟩
  | _ => ⟨S768x9, .i32⟩

abbrev hbmTy0_2 (i : Nat) : BufTy := match i % 128 with
  | 0 => ⟨S1, .i32⟩
  | 1 => ⟨S_, .i32⟩
  | 2 => ⟨S768x1, .i32⟩
  | 3 => ⟨S768x1, .i1⟩
  | 4 => ⟨S1x1, .i32⟩
  | 5 => ⟨S768x1, .i32⟩
  | 6 => ⟨S768x1, .i1⟩
  | 7 => ⟨S768x1, .i1⟩
  | 8 => ⟨S_, .i1⟩
  | 9 => ⟨S768, .i1⟩
  | 10 => ⟨S768x128, .f32⟩
  | 11 => ⟨S768x128, .i1⟩
  | 12 => ⟨S_, .f32⟩
  | 13 => ⟨S768x128, .f32⟩
  | 14 => ⟨S768x128, .f32⟩
  | 15 => ⟨S768x128, .f32⟩
  | 16 => ⟨S768x1, .f32⟩
  | 17 => ⟨S1x16, .f32⟩
  | 18 => ⟨S768x16, .f32⟩
  | 19 => ⟨S768x16, .f32⟩
  | 20 => ⟨S768x16, .f32⟩
  | 21 => ⟨S768x16, .f32⟩
  | 22 => ⟨S_, .f32⟩
  | 23 => ⟨S768x16, .f32⟩
  | 24 => ⟨S768x16, .f32⟩
  | 25 => ⟨S768x16, .f32⟩
  | 26 => ⟨S768x128, .f32⟩
  | 27 => ⟨S768x128, .f32⟩
  | 28 => ⟨S_, .f32⟩
  | 29 => ⟨S3072x128, .f32⟩
  | 30 => ⟨S1x8x128, .f32⟩
  | 31 => ⟨S8x128, .f32⟩
  | 32 => ⟨S3072x1, .i32⟩
  | 33 => ⟨S3072, .i32⟩
  | 34 => ⟨S_, .i32⟩
  | 35 => ⟨S3072, .i32⟩
  | 36 => ⟨S3072, .i1⟩
  | 37 => ⟨S_, .i32⟩
  | 38 => ⟨S3072, .i32⟩
  | 39 => ⟨S3072, .i32⟩
  | 40 => ⟨S3072, .i32⟩
  | 41 => ⟨S3072x1, .i32⟩
  | 42 => ⟨S1, .i32⟩
  | 43 => ⟨S_, .i32⟩
  | 44 => ⟨S3072x1, .i32⟩
  | 45 => ⟨S3072x1, .i1⟩
  | 46 => ⟨S1x1, .i32⟩
  | 47 => ⟨S3072x1, .i32⟩
  | 48 => ⟨S3072x1, .i1⟩
  | 49 => ⟨S3072x1, .i1⟩
  | 50 => ⟨S_, .i1⟩
  | 51 => ⟨S3072, .i1⟩
  | 52 => ⟨S3072x128, .f32⟩
  | 53 => ⟨S3072x128, .i1⟩
  | 54 => ⟨S_, .f32⟩
  | 55 => ⟨S3072x128, .f32⟩
  | 56 => ⟨S3072x128, .f32⟩
  | 57 => ⟨S3072x128, .f32⟩
  | 58 => ⟨S1x8x128, .f32⟩
  | 59 => ⟨S8x128, .f32⟩
  | 60 => ⟨S3072x1, .i32⟩
  | 61 => ⟨S3072, .i32⟩
  | 62 => ⟨S_, .i32⟩
  | 63 => ⟨S3072, .i32⟩
  | 64 => ⟨S3072, .i1⟩
  | 65 => ⟨S_, .i32⟩
  | 66 => ⟨S3072, .i32⟩
  | 67 => ⟨S3072, .i32⟩
  | 68 => ⟨S3072, .i32⟩
  | 69 => ⟨S3072x1, .i32⟩
  | 70 => ⟨S1, .i32⟩
  | 71 => ⟨S_, .i32⟩
  | 72 => ⟨S3072x1, .i32⟩
  | 73 => ⟨S3072x1, .i1⟩
  | 74 => ⟨S1x1, .i32⟩
  | 75 => ⟨S3072x1, .i32⟩
  | 76 => ⟨S3072x1, .i1⟩
  | 77 => ⟨S3072x1, .i1⟩
  | 78 => ⟨S_, .i1⟩
  | 79 => ⟨S3072, .i1⟩
  | 80 => ⟨S3072x128, .f32⟩
  | 81 => ⟨S3072x128, .i1⟩
  | 82 => ⟨S_, .f32⟩
  | 83 => ⟨S3072x128, .f32⟩
  | 84 => ⟨S3072x128, .f32⟩
  | 85 => ⟨S3072x128, .f32⟩
  | 86 => ⟨S1x8x128, .f32⟩
  | 87 => ⟨S8x128, .f32⟩
  | 88 => ⟨S3072x1, .i32⟩
  | 89 => ⟨S3072, .i32⟩
  | 90 => ⟨S_, .i32⟩
  | 91 => ⟨S3072, .i32⟩
  | 92 => ⟨S3072, .i1⟩
  | 93 => ⟨S_, .i32⟩
  | 94 => ⟨S3072, .i32⟩
  | 95 => ⟨S3072, .i32⟩
  | 96 => ⟨S3072, .i32⟩
  | 97 => ⟨S3072x1, .i32⟩
  | 98 => ⟨S1, .i32⟩
  | 99 => ⟨S_, .i32⟩
  | 100 => ⟨S3072x1, .i32⟩
  | 101 => ⟨S3072x1, .i1⟩
  | 102 => ⟨S1x1, .i32⟩
  | 103 => ⟨S3072x1, .i32⟩
  | 104 => ⟨S3072x1, .i1⟩
  | 105 => ⟨S3072x1, .i1⟩
  | 106 => ⟨S_, .i1⟩
  | 107 => ⟨S3072, .i1⟩
  | 108 => ⟨S3072x128, .f32⟩
  | 109 => ⟨S3072x128, .i1⟩
  | 110 => ⟨S_, .f32⟩
  | 111 => ⟨S3072x128, .f32⟩
  | 112 => ⟨S3072x128, .f32⟩
  | 113 => ⟨S3072x128, .f32⟩
  | 114 => ⟨S16x48x3, .f32⟩
  | 115 => ⟨S16x48x1x3, .f32⟩
  | 116 => ⟨S16x1x48x3, .f32⟩
  | 117 => ⟨S16x48x48x3, .f32⟩
  | 118 => ⟨S16x48x48x3, .f32⟩
  | 119 => ⟨S16x48x48x3, .f32⟩
  | 120 => ⟨S16x48x48x3, .f32⟩
  | 121 => ⟨S_, .f32⟩
  | 122 => ⟨S16x48x48, .f32⟩
  | 123 => ⟨S_, .f32⟩
  | 124 => ⟨S16x48x48, .f32⟩
  | 125 => ⟨S16x48x48, .f32⟩
  | 126 => ⟨S16x48x48, .f32⟩
  | 127 => ⟨S16x48x48x1, .f32⟩
  | _ => ⟨S768x9, .i32⟩

abbrev hbmTy0_3 (i : Nat) : BufTy := match i % 128 with
  | 0 => ⟨S1x1x1x16, .f32⟩
  | 1 => ⟨S16x48x48x16, .f32⟩
  | 2 => ⟨S16x48x48x16, .f32⟩
  | 3 => ⟨S16x48x48x16, .f32⟩
  | 4 => ⟨S16x48x48x16, .f32⟩
  | 5 => ⟨S_, .f32⟩
  | 6 => ⟨S16x48x48x16, .f32⟩
  | 7 => ⟨S16x48x48x16, .f32⟩
  | 8 => ⟨S16x48x48x16, .f32⟩
  | 9 => ⟨S16x48x48x128, .f32⟩
  | 10 => ⟨S1x3072, .i32⟩
  | 11 => ⟨S3072, .i32⟩
  | 12 => ⟨S1x3072, .i32⟩
  | 13 => ⟨S3072, .i32⟩
  | 14 => ⟨S_, .i32⟩
  | 15 => ⟨S3072, .i32⟩
  | 16 => ⟨S3072, .i1⟩
  | 17 => ⟨S_, .i32⟩
  | 18 => ⟨S3072, .i32⟩
  | 19 => ⟨S3072, .i32⟩
  | 20 => ⟨S3072, .i32⟩
  | 21 => ⟨S3072x1, .i32⟩
  | 22 => ⟨S3072, .i32⟩
  | 23 => ⟨S_, .i32⟩
  | 24 => ⟨S3072, .i32⟩
  | 25 => ⟨S3072, .i32⟩
  | 26 => ⟨S3072, .i32⟩
  | 27 => ⟨S_, .i32⟩
  | 28 => ⟨S3072, .i32⟩
  | 29 => ⟨S3072, .i32⟩
  | 30 => ⟨S3072, .i32⟩
  | 31 => ⟨S_, .i32⟩
  | 32 => ⟨S3072, .i32⟩
  | 33 => ⟨S3072, .i1⟩
  | 34 => ⟨S_, .i32⟩
  | 35 => ⟨S3072, .i32⟩
  | 36 => ⟨S3072, .i32⟩
  | 37 => ⟨S3072, .i32⟩
  | 38 => ⟨S_, .i32⟩
  | 39 => ⟨S3072, .i32⟩
  | 40 => ⟨S3072, .i1⟩
  | 41 => ⟨S_, .i32⟩
  | 42 => ⟨S3072, .i32⟩
  | 43 => ⟨S3072, .i32⟩
  | 44 => ⟨S3072, .i32⟩
  | 45 => ⟨S_, .i32⟩
  | 46 => ⟨S3072, .i32⟩
  | 47 => ⟨S3072, .i1⟩
  | 48 => ⟨S_, .i32⟩
  | 49 => ⟨S3072, .i32⟩
  | 50 => ⟨S3072, .i32⟩
  | 51 => ⟨S3072, .i32⟩
  | 52 => ⟨S3072x1, .i32⟩
  | 53 => ⟨S3072x1, .i32⟩
  | 54 => ⟨S3072x1, .i32⟩
  | 55 => ⟨S3072x3, .i32⟩
  | 56 => ⟨S16x48x48x128, .f32⟩
  | 57 => ⟨S16x48x128, .f32⟩
  | 58 => ⟨S_, .f32⟩
  | 59 => ⟨S16x48, .f32⟩
  | 60 => ⟨S16x48x1, .f32⟩
  | 61 => ⟨S_, .f32⟩
  | 62 => ⟨S16x48x1, .f32⟩
  | 63 => ⟨S16x48x1, .f32⟩
  | 64 => ⟨S16x48x128, .f32⟩
  | 65 => ⟨S16x48x128, .f32⟩
  | 66 => ⟨S16x48x128, .f32⟩
  | 67 => ⟨S_, .f32⟩
  | 68 => ⟨S16x48, .f32⟩
  | 69 => ⟨S16x48x1, .f32⟩
  | 70 => ⟨S_, .f32⟩
  | 71 => ⟨S16x48x1, .f32⟩
  | 72 => ⟨S16x48x1, .f32⟩
  | 73 => ⟨S16x48x128, .f32⟩
  | 74 => ⟨S16x48x128, .f32⟩
  | 75 => ⟨S_, .f32⟩
  | 76 => ⟨S16x48x1, .f32⟩
  | 77 => ⟨S16x48x1, .f32⟩
  | 78 => ⟨S16x48x1, .f32⟩
  | 79 => ⟨S16x48x128, .f32⟩
  | 80 => ⟨S16x48x128, .f32⟩
  | 81 => ⟨S1x128x128, .f32⟩
  | 82 => ⟨S128x128, .f32⟩
  | 83 => ⟨S16x48x128, .f32⟩
  | 84 => ⟨S16x48x8x16, .f32⟩
  | 85 => ⟨S1x128x128, .f32⟩
  | 86 => ⟨S128x128, .f32⟩
  | 87 => ⟨S16x48x128, .f32⟩
  | 88 => ⟨S16x48x8x16, .f32⟩
  | 89 => ⟨S1x128x128, .f32⟩
  | 90 => ⟨S128x128, .f32⟩
  | 91 => ⟨S16x48x128, .f32⟩
  | 92 => ⟨S16x48x8x16, .f32⟩
  | 93 => ⟨S16x8x48x48, .f32⟩
  | 94 => ⟨S_, .f32⟩
  | 95 => ⟨S16x8x48x48, .f32⟩
  | 96 => ⟨S16x8x48x48, .f32⟩
  | 97 => ⟨S1x128x8, .f32⟩
  | 98 => ⟨S128x8, .f32⟩
  | 99 => ⟨S16x48x48x8, .f32⟩
  | 100 => ⟨S16x8x48x48, .f32⟩
  | 101 => ⟨S16x8x48x48, .f32⟩
  | 102 => ⟨S_, .f32⟩
  | 103 => ⟨S16x8x48, .f32⟩
  | 104 => ⟨S_, .f32⟩
  | 105 => ⟨S16x8x48, .f32⟩
  | 106 => ⟨S16x8x48, .f32⟩
  | 107 => ⟨S16x8x48x1, .f32⟩
  | 108 => ⟨S16x8x48x48, .f32⟩
  | 109 => ⟨S16x8x48x48, .f32⟩
  | 110 => ⟨S16x8x48x48, .f32⟩
  | 111 => ⟨S_, .f32⟩
  | 112 => ⟨S16x8x48, .f32⟩
  | 113 => ⟨S16x8x48x1, .f32⟩
  | 114 => ⟨S16x8x48x48, .f32⟩
  | 115 => ⟨S16x8x48x48, .f32⟩
  | 116 => ⟨S16x8x16x48, .f32⟩
  | 117 => ⟨S16x48x8x16, .f32⟩
  | 118 => ⟨S16x48x128, .f32⟩
  | 119 => ⟨S1x128x128, .f32⟩
  | 120 => ⟨S128x128, .f32⟩
  | 121 => ⟨S16x48x128, .f32⟩
  | 122 => ⟨S16x48x128, .f32⟩
  | 123 => ⟨S16x48x1x128, .f32⟩
  | 124 => ⟨S16x1x48x128, .f32⟩
  | 125 => ⟨S16x48x48x128, .f32⟩
  | 126 => ⟨S16x48x48x128, .f32⟩
  | 127 => ⟨S16x48x48x128, .f32⟩
  | _ => ⟨S768x9, .i32⟩

abbrev hbmTy0_4 (i : Nat) : BufTy := match i % 128 with
  | 0 => ⟨S16x48x48x128, .f32⟩
  | 1 => ⟨S_, .f32⟩
  | 2 => ⟨S16x48x48x128, .f32⟩
  | 3 => ⟨S16x48x48x128, .f32⟩
  | 4 => ⟨S1x128x128, .f32⟩
  | 5 => ⟨S128x128, .f32⟩
  | 6 => ⟨S16x48x48x128, .f32⟩
  | 7 => ⟨S16x48x48x128, .f32⟩
  | 8 => ⟨S_, .f32⟩
  | 9 => ⟨S16x48, .f32⟩
  | 10 => ⟨S16x48x1, .f32⟩
  | 11 => ⟨S_, .f32⟩
  | 12 => ⟨S16x48x1, .f32⟩
  | 13 => ⟨S16x48x1, .f32⟩
  | 14 => ⟨S16x48x128, .f32⟩
  | 15 => ⟨S16x48x128, .f32⟩
  | 16 => ⟨S16x48x128, .f32⟩
  | 17 => ⟨S_, .f32⟩
  | 18 => ⟨S16x48, .f32⟩
  | 19 => ⟨S16x48x1, .f32⟩
  | 20 => ⟨S_, .f32⟩
  | 21 => ⟨S16x48x1, .f32⟩
  | 22 => ⟨S16x48x1, .f32⟩
  | 23 => ⟨S16x48x128, .f32⟩
  | 24 => ⟨S16x48x128, .f32⟩
  | 25 => ⟨S_, .f32⟩
  | 26 => ⟨S16x48x1, .f32⟩
  | 27 => ⟨S16x48x1, .f32⟩
  | 28 => ⟨S16x48x1, .f32⟩
  | 29 => ⟨S16x48x128, .f32⟩
  | 30 => ⟨S16x48x128, .f32⟩
  | 31 => ⟨S1x128x128, .f32⟩
  | 32 => ⟨S128x128, .f32⟩
  | 33 => ⟨S16x48x128, .f32⟩
  | 34 => ⟨S16x48x8x16, .f32⟩
  | 35 => ⟨S1x128x128, .f32⟩
  | 36 => ⟨S128x128, .f32⟩
  | 37 => ⟨S16x48x128, .f32⟩
  | 38 => ⟨S16x48x8x16, .f32⟩
  | 39 => ⟨S1x128x128, .f32⟩
  | 40 => ⟨S128x128, .f32⟩
  | 41 => ⟨S16x48x128, .f32⟩
  | 42 => ⟨S16x48x8x16, .f32⟩
  | 43 => ⟨S16x8x48x48, .f32⟩
  | 44 => ⟨S_, .f32⟩
  | 45 => ⟨S16x8x48x48, .f32⟩
  | 46 => ⟨S16x8x48x48, .f32⟩
  | 47 => ⟨S1x128x8, .f32⟩
  | 48 => ⟨S128x8, .f32⟩
  | 49 => ⟨S16x48x48x8, .f32⟩
  | 50 => ⟨S16x8x48x48, .f32⟩
  | 51 => ⟨S16x8x48x48, .f32⟩
  | 52 => ⟨S_, .f32⟩
  | 53 => ⟨S16x8x48, .f32⟩
  | 54 => ⟨S_, .f32⟩
  | 55 => ⟨S16x8x48, .f32⟩
  | 56 => ⟨S16x8x48, .f32⟩
  | 57 => ⟨S16x8x48x1, .f32⟩
  | 58 => ⟨S16x8x48x48, .f32⟩
  | 59 => ⟨S16x8x48x48, .f32⟩
  | 60 => ⟨S16x8x48x48, .f32⟩
  | 61 => ⟨S_, .f32⟩
  | 62 => ⟨S16x8x48, .f32⟩
  | 63 => ⟨S16x8x48x1, .f32⟩
  | 64 => ⟨S16x8x48x48, .f32⟩
  | 65 => ⟨S16x8x48x48, .f32⟩
  | 66 => ⟨S16x8x16x48, .f32⟩
  | 67 => ⟨S16x48x8x16, .f32⟩
  | 68 => ⟨S16x48x128, .f32⟩
  | 69 => ⟨S1x128x128, .f32⟩
  | 70 => ⟨S128x128, .f32⟩
  | 71 => ⟨S16x48x128, .f32⟩
  | 72 => ⟨S16x48x128, .f32⟩
  | 73 => ⟨S16x48x1x128, .f32⟩
  | 74 => ⟨S16x1x48x128, .f32⟩
  | 75 => ⟨S16x48x48x128, .f32⟩
  | 76 => ⟨S16x48x48x128, .f32⟩
  | 77 => ⟨S16x48x48x128, .f32⟩
  | 78 => ⟨S16x48x48x128, .f32⟩
  | 79 => ⟨S_, .f32⟩
  | 80 => ⟨S16x48x48x128, .f32⟩
  | 81 => ⟨S16x48x48x128, .f32⟩
  | 82 => ⟨S1x128x128, .f32⟩
  | 83 => ⟨S128x128, .f32⟩
  | 84 => ⟨S16x48x48x128, .f32⟩
  | 85 => ⟨S16x48x48x128, .f32⟩
  | 86 => ⟨S_, .f32⟩
  | 87 => ⟨S16x48, .f32⟩
  | 88 => ⟨S16x48x1, .f32⟩
  | 89 => ⟨S_, .f32⟩
  | 90 => ⟨S16x48x1, .f32⟩
  | 91 => ⟨S16x48x1, .f32⟩
  | 92 => ⟨S16x48x128, .f32⟩
  | 93 => ⟨S16x48x128, .f32⟩
  | 94 => ⟨S16x48x128, .f32⟩
  | 95 => ⟨S_, .f32⟩
  | 96 => ⟨S16x48, .f32⟩
  | 97 => ⟨S16x48x1, .f32⟩
  | 98 => ⟨S_, .f32⟩
  | 99 => ⟨S16x48x1, .f32⟩
  | 100 => ⟨S16x48x1, .f32⟩
  | 101 => ⟨S16x48x128, .f32⟩
  | 102 => ⟨S16x48x128, .f32⟩
  | 103 => ⟨S_, .f32⟩
  | 104 => ⟨S16x48x1, .f32⟩
  | 105 => ⟨S16x48x1, .f32⟩
  | 106 => ⟨S16x48x1, .f32⟩
  | 107 => ⟨S16x48x128, .f32⟩
  | 108 => ⟨S16x48x128, .f32⟩
  | 109 => ⟨S1x128x128, .f32⟩
  | 110 => ⟨S128x128, .f32⟩
  | 111 => ⟨S16x48x128, .f32⟩
  | 112 => ⟨S16x48x8x16, .f32⟩
  | 113 => ⟨S1x128x128, .f32⟩
  | 114 => ⟨S128x128, .f32⟩
  | 115 => ⟨S16x48x128, .f32⟩
  | 116 => ⟨S16x48x8x16, .f32⟩
  | 117 => ⟨S1x128x128, .f32⟩
  | 118 => ⟨S128x128, .f32⟩
  | 119 => ⟨S16x48x128, .f32⟩
  | 120 => ⟨S16x48x8x16, .f32⟩
  | 121 => ⟨S16x8x48x48, .f32⟩
  | 122 => ⟨S_, .f32⟩
  | 123 => ⟨S16x8x48x48, .f32⟩
  | 124 => ⟨S16x8x48x48, .f32⟩
  | 125 => ⟨S1x128x8, .f32⟩
  | 126 => ⟨S128x8, .f32⟩
  | 127 => ⟨S16x48x48x8, .f32⟩
  | _ => ⟨S768x9, .i32⟩

abbrev hbmTy0_5 (i : Nat) : BufTy := match i % 128 with
  | 0 => ⟨S16x8x48x48, .f32⟩
  | 1 => ⟨S16x8x48x48, .f32⟩
  | 2 => ⟨S_, .f32⟩
  | 3 => ⟨S16x8x48, .f32⟩
  | 4 => ⟨S_, .f32⟩
  | 5 => ⟨S16x8x48, .f32⟩
  | 6 => ⟨S16x8x48, .f32⟩
  | 7 => ⟨S16x8x48x1, .f32⟩
  | 8 => ⟨S16x8x48x48, .f32⟩
  | 9 => ⟨S16x8x48x48, .f32⟩
  | 10 => ⟨S16x8x48x48, .f32⟩
  | 11 => ⟨S_, .f32⟩
  | 12 => ⟨S16x8x48, .f32⟩
  | 13 => ⟨S16x8x48x1, .f32⟩
  | 14 => ⟨S16x8x48x48, .f32⟩
  | 15 => ⟨S16x8x48x48, .f32⟩
  | 16 => ⟨S16x8x16x48, .f32⟩
  | 17 => ⟨S16x48x8x16, .f32⟩
  | 18 => ⟨S16x48x128, .f32⟩
  | 19 => ⟨S1x128x128, .f32⟩
  | 20 => ⟨S128x128, .f32⟩
  | 21 => ⟨S16x48x128, .f32⟩
  | 22 => ⟨S16x48x128, .f32⟩
  | 23 => ⟨S16x48x1x128, .f32⟩
  | 24 => ⟨S16x1x48x128, .f32⟩
  | 25 => ⟨S16x48x48x128, .f32⟩
  | 26 => ⟨S16x48x48x128, .f32⟩
  | 27 => ⟨S16x48x48x128, .f32⟩
  | 28 => ⟨S16x48x48x128, .f32⟩
  | 29 => ⟨S_, .f32⟩
  | 30 => ⟨S16x48x48x128, .f32⟩
  | 31 => ⟨S16x48x48x128, .f32⟩
  | 32 => ⟨S1x128x128, .f32⟩
  | 33 => ⟨S128x128, .f32⟩
  | 34 => ⟨S16x48x48x128, .f32⟩
  | 35 => ⟨S16x48x48x128, .f32⟩
  | 36 => ⟨S_, .f32⟩
  | 37 => ⟨S16x48, .f32⟩
  | 38 => ⟨S16x48x1, .f32⟩
  | 39 => ⟨S_, .f32⟩
  | 40 => ⟨S16x48x1, .f32⟩
  | 41 => ⟨S16x48x1, .f32⟩
  | 42 => ⟨S16x48x128, .f32⟩
  | 43 => ⟨S16x48x128, .f32⟩
  | 44 => ⟨S16x48x128, .f32⟩
  | 45 => ⟨S_, .f32⟩
  | 46 => ⟨S16x48, .f32⟩
  | 47 => ⟨S16x48x1, .f32⟩
  | 48 => ⟨S_, .f32⟩
  | 49 => ⟨S16x48x1, .f32⟩
  | 50 => ⟨S16x48x1, .f32⟩
  | 51 => ⟨S16x48x128, .f32⟩
  | 52 => ⟨S16x48x128, .f32⟩
  | 53 => ⟨S_, .f32⟩
  | 54 => ⟨S16x48x1, .f32⟩
  | 55 => ⟨S16x48x1, .f32⟩
  | 56 => ⟨S16x48x1, .f32⟩
  | 57 => ⟨S16x48x128, .f32⟩
  | 58 => ⟨S16x48x128, .f32⟩
  | 59 => ⟨S1x128x128, .f32⟩
  | 60 => ⟨S128x128, .f32⟩
  | 61 => ⟨S16x48x128, .f32⟩
  | 62 => ⟨S16x48x8x16, .f32⟩
  | 63 => ⟨S1x128x128, .f32⟩
  | 64 => ⟨S128x128, .f32⟩
  | 65 => ⟨S16x48x128, .f32⟩
  | 66 => ⟨S16x48x8x16, .f32⟩
  | 67 => ⟨S1x128x128, .f32⟩
  | 68 => ⟨S128x128, .f32⟩
  | 69 => ⟨S16x48x128, .f32⟩
  | 70 => ⟨S16x48x8x16, .f32⟩
  | 71 => ⟨S16x8x48x48, .f32⟩
  | 72 => ⟨S_, .f32⟩
  | 73 => ⟨S16x8x48x48, .f32⟩
  | 74 => ⟨S16x8x48x48, .f32⟩
  | 75 => ⟨S1x128x8, .f32⟩
  | 76 => ⟨S128x8, .f32⟩
  | 77 => ⟨S16x48x48x8, .f32⟩
  | 78 => ⟨S16x8x48x48, .f32⟩
  | 79 => ⟨S16x8x48x48, .f32⟩
  | 80 => ⟨S_, .f32⟩
  | 81 => ⟨S16x8x48, .f32⟩
  | 82 => ⟨S_, .f32⟩
  | 83 => ⟨S16x8x48, .f32⟩
  | 84 => ⟨S16x8x48, .f32⟩
  | 85 => ⟨S16x8x48x1, .f32⟩
  | 86 => ⟨S16x8x48x48, .f32⟩
  | 87 => ⟨S16x8x48x48, .f32⟩
  | 88 => ⟨S16x8x48x48, .f32⟩
  | 89 => ⟨S_, .f32⟩
  | 90 => ⟨S16x8x48, .f32⟩
  | 91 => ⟨S16x8x48x1, .f32⟩
  | 92 => ⟨S16x8x48x48, .f32⟩
  | 93 => ⟨S16x8x48x48, .f32⟩
  | 94 => ⟨S16x8x16x48, .f32⟩
  | 95 => ⟨S16x48x8x16, .f32⟩
  | 96 => ⟨S16x48x128, .f32⟩
  | 97 => ⟨S1x128x128, .f32⟩
  | 98 => ⟨S128x128, .f32⟩
  | 99 => ⟨S16x48x128, .f32⟩
  | 100 => ⟨S16x48x128, .f32⟩
  | 101 => ⟨S16x48x1x128, .f32⟩
  | 102 => ⟨S16x1x48x128, .f32⟩
  | 103 => ⟨S16x48x48x128, .f32⟩
  | 104 => ⟨S16x48x48x128, .f32⟩
  | 105 => ⟨S16x48x48x128, .f32⟩
  | 106 => ⟨S16x48x48x128, .f32⟩
  | 107 => ⟨S_, .f32⟩
  | 108 => ⟨S16x48x48x128, .f32⟩
  | 109 => ⟨S16x48x48x128, .f32⟩
  | 110 => ⟨S1x128x128, .f32⟩
  | 111 => ⟨S128x128, .f32⟩
  | 112 => ⟨S16x48x48x128, .f32⟩
  | 113 => ⟨S16x48x48x128, .f32⟩
  | 114 => ⟨S_, .f32⟩
  | 115 => ⟨S16x48, .f32⟩
  | 116 => ⟨S16x48x1, .f32⟩
  | 117 => ⟨S_, .f32⟩
  | 118 => ⟨S16x48x1, .f32⟩
  | 119 => ⟨S16x48x1, .f32⟩
  | 120 => ⟨S16x48x128, .f32⟩
  | 121 => ⟨S16x48x128, .f32⟩
  | 122 => ⟨S16x48x128, .f32⟩
  | 123 => ⟨S_, .f32⟩
  | 124 => ⟨S16x48, .f32⟩
  | 125 => ⟨S16x48x1, .f32⟩
  | 126 => ⟨S_, .f32⟩
  | 127 => ⟨S16x48x1, .f32⟩
  | _ => ⟨S768x9, .i32⟩

abbrev hbmTy0_6 (i : Nat) : BufTy := match i % 128 with
  | 0 => ⟨S16x48x1, .f32⟩
  | 1 => ⟨S16x48x128, .f32⟩
  | 2 => ⟨S16x48x128, .f32⟩
  | 3 => ⟨S_, .f32⟩
  | 4 => ⟨S16x48x1, .f32⟩
  | 5 => ⟨S16x48x1, .f32⟩
  | 6 => ⟨S16x48x1, .f32⟩
  | 7 => ⟨S16x48x128, .f32⟩
  | 8 => ⟨S16x48x128, .f32⟩
  | 9 => ⟨S1x128x128, .f32⟩
  | 10 => ⟨S128x128, .f32⟩
  | 11 => ⟨S16x48x128, .f32⟩
  | 12 => ⟨S16x48x8x16, .f32⟩
  | 13 => ⟨S1x128x128, .f32⟩
  | 14 => ⟨S128x128, .f32⟩
  | 15 => ⟨S16x48x128, .f32⟩
  | 16 => ⟨S16x48x8x16, .f32⟩
  | 17 => ⟨S1x128x128, .f32⟩
  | 18 => ⟨S128x128, .f32⟩
  | 19 => ⟨S16x48x128, .f32⟩
  | 20 => ⟨S16x48x8x16, .f32⟩
  | 21 => ⟨S16x8x48x48, .f32⟩
  | 22 => ⟨S_, .f32⟩
  | 23 => ⟨S16x8x48x48, .f32⟩
  | 24 => ⟨S16x8x48x48, .f32⟩
  | 25 => ⟨S1x128x8, .f32⟩
  | 26 => ⟨S128x8, .f32⟩
  | 27 => ⟨S16x48x48x8, .f32⟩
  | 28 => ⟨S16x8x48x48, .f32⟩
  | 29 => ⟨S16x8x48x48, .f32⟩
  | 30 => ⟨S_, .f32⟩
  | 31 => ⟨S16x8x48, .f32⟩
  | 32 => ⟨S_, .f32⟩
  | 33 => ⟨S16x8x48, .f32⟩
  | 34 => ⟨S16x8x48, .f32⟩
  | 35 => ⟨S16x8x48x1, .f32⟩
  | 36 => ⟨S16x8x48x48, .f32⟩
  | 37 => ⟨S16x8x48x48, .f32⟩
  | 38 => ⟨S16x8x48x48, .f32⟩
  | 39 => ⟨S_, .f32⟩
  | 40 => ⟨S16x8x48, .f32⟩
  | 41 => ⟨S16x8x48x1, .f32⟩
  | 42 => ⟨S16x8x48x48, .f32⟩
  | 43 => ⟨S16x8x48x48, .f32⟩
  | 44 => ⟨S16x8x16x48, .f32⟩
  | 45 => ⟨S16x48x8x16, .f32⟩
  | 46 => ⟨S16x48x128, .f32⟩
  | 47 => ⟨S1x128x128, .f32⟩
  | 48 => ⟨S128x128, .f32⟩
  | 49 => ⟨S16x48x128, .f32⟩
  | 50 => ⟨S16x48x128, .f32⟩
  | 51 => ⟨S16x48x1x128, .f32⟩
  | 52 => ⟨S16x1x48x128, .f32⟩
  | 53 => ⟨S16x48x48x128, .f32⟩
  | 54 => ⟨S16x48x48x128, .f32⟩
  | 55 => ⟨S16x48x48x128, .f32⟩
  | 56 => ⟨S16x48x48x128, .f32⟩
  | 57 => ⟨S_, .f32⟩
  | 58 => ⟨S16x48x48x128, .f32⟩
  | 59 => ⟨S16x48x48x128, .f32⟩
  | 60 => ⟨S1x128x128, .f32⟩
  | 61 => ⟨S128x128, .f32⟩
  | 62 => ⟨S16x48x48x128, .f32⟩
  | 63 => ⟨S16x48x48x128, .f32⟩
  | 64 => ⟨S_, .f32⟩
  | 65 => ⟨S16x48, .f32⟩
  | 66 => ⟨S16x48x1, .f32⟩
  | 67 => ⟨S_, .f32⟩
  | 68 => ⟨S16x48x1, .f32⟩
  | 69 => ⟨S16x48x1, .f32⟩
  | 70 => ⟨S16x48x128, .f32⟩
  | 71 => ⟨S16x48x128, .f32⟩
  | 72 => ⟨S16x48x128, .f32⟩
  | 73 => ⟨S_, .f32⟩
  | 74 => ⟨S16x48, .f32⟩
  | 75 => ⟨S16x48x1, .f32⟩
  | 76 => ⟨S_, .f32⟩
  | 77 => ⟨S16x48x1, .f32⟩
  | 78 => ⟨S16x48x1, .f32⟩
  | 79 => ⟨S16x48x128, .f32⟩
  | 80 => ⟨S16x48x128, .f32⟩
  | 81 => ⟨S_, .f32⟩
  | 82 => ⟨S16x48x1, .f32⟩
  | 83 => ⟨S16x48x1, .f32⟩
  | 84 => ⟨S16x48x1, .f32⟩
  | 85 => ⟨S16x48x128, .f32⟩
  | 86 => ⟨S16x48x128, .f32⟩
  | 87 => ⟨S1x128x128, .f32⟩
  | 88 => ⟨S128x128, .f32⟩
  | 89 => ⟨S16x48x128, .f32⟩
  | 90 => ⟨S16x48x8x16, .f32⟩
  | 91 => ⟨S1x128x128, .f32⟩
  | 92 => ⟨S128x128, .f32⟩
  | 93 => ⟨S16x48x128, .f32⟩
  | 94 => ⟨S16x48x8x16, .f32⟩
  | 95 => ⟨S1x128x128, .f32⟩
  | 96 => ⟨S128x128, .f32⟩
  | 97 => ⟨S16x48x128, .f32⟩
  | 98 => ⟨S16x48x8x16, .f32⟩
  | 99 => ⟨S16x8x48x48, .f32⟩
  | 100 => ⟨S_, .f32⟩
  | 101 => ⟨S16x8x48x48, .f32⟩
  | 102 => ⟨S16x8x48x48, .f32⟩
  | 103 => ⟨S1x128x8, .f32⟩
  | 104 => ⟨S128x8, .f32⟩
  | 105 => ⟨S16x48x48x8, .f32⟩
  | 106 => ⟨S16x8x48x48, .f32⟩
  | 107 => ⟨S16x8x48x48, .f32⟩
  | 108 => ⟨S_, .f32⟩
  | 109 => ⟨S16x8x48, .f32⟩
  | 110 => ⟨S_, .f32⟩
  | 111 => ⟨S16x8x48, .f32⟩
  | 112 => ⟨S16x8x48, .f32⟩
  | 113 => ⟨S16x8x48x1, .f32⟩
  | 114 => ⟨S16x8x48x48, .f32⟩
  | 115 => ⟨S16x8x48x48, .f32⟩
  | 116 => ⟨S16x8x48x48, .f32⟩
  | 117 => ⟨S_, .f32⟩
  | 118 => ⟨S16x8x48, .f32⟩
  | 119 => ⟨S16x8x48x1, .f32⟩
  | 120 => ⟨S16x8x48x48, .f32⟩
  | 121 => ⟨S16x8x48x48, .f32⟩
  | 122 => ⟨S16x8x16x48, .f32⟩
  | 123 => ⟨S16x48x8x16, .f32⟩
  | 124 => ⟨S16x48x128, .f32⟩
  | 125 => ⟨S1x128x128, .f32⟩
  | 126 => ⟨S128x128, .f32⟩
  | 127 => ⟨S16x48x128, .f32⟩
  | _ => ⟨S768x9, .i32⟩

abbrev hbmTy0_7 (i : Nat) : BufTy := match i % 128 with
  | 0 => ⟨S16x48x128, .f32⟩
  | 1 => ⟨S16x48x1x128, .f32⟩
  | 2 => ⟨S16x1x48x128, .f32⟩
  | 3 => ⟨S16x48x48x128, .f32⟩
  | 4 => ⟨S16x48x48x128, .f32⟩
  | 5 => ⟨S16x48x48x128, .f32⟩
  | 6 => ⟨S16x48x48x128, .f32⟩
  | 7 => ⟨S_, .f32⟩
  | 8 => ⟨S16x48x48x128, .f32⟩
  | 9 => ⟨S16x48x48x128, .f32⟩
  | 10 => ⟨S1x128x128, .f32⟩
  | 11 => ⟨S128x128, .f32⟩
  | 12 => ⟨S16x48x48x128, .f32⟩
  | 13 => ⟨S16x48x48x128, .f32⟩
  | 14 => ⟨S8x96x128, .f32⟩
  | _ => ⟨S768x9, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S768x9, .i32⟩

abbrev bufTy : (tb : Table) → Fin (tcTables nBuf tb) → BufTy
  | .hbm, ⟨i, _⟩ => hbmTy i
  | _, _ => ⟨S768x9, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v11 : Ref sig .tc := ⟨.hbm, 74, rfl⟩
abbrev main_v12 : Ref sig .tc := ⟨.hbm, 75, rfl⟩
abbrev main_v13 : Ref sig .tc := ⟨.hbm, 76, rfl⟩
abbrev main_v14 : Ref sig .tc := ⟨.hbm, 77, rfl⟩
abbrev main_v15 : Ref sig .tc := ⟨.hbm, 78, rfl⟩
abbrev main_v16 : Ref sig .tc := ⟨.hbm, 79, rfl⟩
abbrev main_call2_c : Ref sig .tc := ⟨.hbm, 80, rfl⟩
abbrev main_call2_v0 : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_c_1 : Ref sig .tc := ⟨.hbm, 88, rfl⟩
abbrev main_call2_c_2 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_c_3 : Ref sig .tc := ⟨.hbm, 96, rfl⟩
abbrev main_call2_v12 : Ref sig .tc := ⟨.hbm, 97, rfl⟩
abbrev main_call2_v13 : Ref sig .tc := ⟨.hbm, 98, rfl⟩
abbrev main_call2_v14 : Ref sig .tc := ⟨.hbm, 99, rfl⟩
abbrev main_call2_cst : Ref sig .tc := ⟨.hbm, 100, rfl⟩
abbrev main_call2_v15 : Ref sig .tc := ⟨.hbm, 101, rfl⟩
abbrev main_v17 : Ref sig .tc := ⟨.hbm, 102, rfl⟩
abbrev main_v18 : Ref sig .tc := ⟨.hbm, 103, rfl⟩
abbrev main_v19 : Ref sig .tc := ⟨.hbm, 104, rfl⟩
abbrev main_v20 : Ref sig .tc := ⟨.hbm, 105, rfl⟩
abbrev main_v21 : Ref sig .tc := ⟨.hbm, 106, rfl⟩
abbrev main_v22 : Ref sig .tc := ⟨.hbm, 107, rfl⟩
abbrev main_call3_c : Ref sig .tc := ⟨.hbm, 108, rfl⟩
abbrev main_call3_v0 : Ref sig .tc := ⟨.hbm, 109, rfl⟩
abbrev main_call3_v1 : Ref sig .tc := ⟨.hbm, 110, rfl⟩
abbrev main_call3_c_0 : Ref sig .tc := ⟨.hbm, 111, rfl⟩
abbrev main_call3_v2 : Ref sig .tc := ⟨.hbm, 112, rfl⟩
abbrev main_call3_v3 : Ref sig .tc := ⟨.hbm, 113, rfl⟩
abbrev main_call3_v4 : Ref sig .tc := ⟨.hbm, 114, rfl⟩
abbrev main_call3_v5 : Ref sig .tc := ⟨.hbm, 115, rfl⟩
abbrev main_call3_c_1 : Ref sig .tc := ⟨.hbm, 116, rfl⟩
abbrev main_call3_c_2 : Ref sig .tc := ⟨.hbm, 117, rfl⟩
abbrev main_call3_v6 : Ref sig .tc := ⟨.hbm, 118, rfl⟩
abbrev main_call3_v7 : Ref sig .tc := ⟨.hbm, 119, rfl⟩
abbrev main_call3_v8 : Ref sig .tc := ⟨.hbm, 120, rfl⟩
abbrev main_call3_v9 : Ref sig .tc := ⟨.hbm, 121, rfl⟩
abbrev main_call3_v10 : Ref sig .tc := ⟨.hbm, 122, rfl⟩
abbrev main_call3_v11 : Ref sig .tc := ⟨.hbm, 123, rfl⟩
abbrev main_call3_c_3 : Ref sig .tc := ⟨.hbm, 124, rfl⟩
abbrev main_call3_v12 : Ref sig .tc := ⟨.hbm, 125, rfl⟩
abbrev main_call3_v13 : Ref sig .tc := ⟨.hbm, 126, rfl⟩
abbrev main_call3_v14 : Ref sig .tc := ⟨.hbm, 127, rfl⟩
abbrev main_call3_cst : Ref sig .tc := ⟨.hbm, 128, rfl⟩
abbrev main_call3_v15 : Ref sig .tc := ⟨.hbm, 129, rfl⟩
abbrev main_v23 : Ref sig .tc := ⟨.hbm, 130, rfl⟩
abbrev main_v24 : Ref sig .tc := ⟨.hbm, 131, rfl⟩
abbrev main_v25 : Ref sig .tc := ⟨.hbm, 132, rfl⟩
abbrev main_v26 : Ref sig .tc := ⟨.hbm, 133, rfl⟩
abbrev main_v27 : Ref sig .tc := ⟨.hbm, 134, rfl⟩
abbrev main_v28 : Ref sig .tc := ⟨.hbm, 135, rfl⟩
abbrev main_call4_c : Ref sig .tc := ⟨.hbm, 136, rfl⟩
abbrev main_call4_v0 : Ref sig .tc := ⟨.hbm, 137, rfl⟩
abbrev main_call4_v1 : Ref sig .tc := ⟨.hbm, 138, rfl⟩
abbrev main_call4_c_0 : Ref sig .tc := ⟨.hbm, 139, rfl⟩
abbrev main_call4_v2 : Ref sig .tc := ⟨.hbm, 140, rfl⟩
abbrev main_call4_v3 : Ref sig .tc := ⟨.hbm, 141, rfl⟩
abbrev main_call4_v4 : Ref sig .tc := ⟨.hbm, 142, rfl⟩
abbrev main_call4_v5 : Ref sig .tc := ⟨.hbm, 143, rfl⟩
abbrev main_call4_c_1 : Ref sig .tc := ⟨.hbm, 144, rfl⟩
abbrev main_call4_c_2 : Ref sig .tc := ⟨.hbm, 145, rfl⟩
abbrev main_call4_v6 : Ref sig .tc := ⟨.hbm, 146, rfl⟩
abbrev main_call4_v7 : Ref sig .tc := ⟨.hbm, 147, rfl⟩
abbrev main_call4_v8 : Ref sig .tc := ⟨.hbm, 148, rfl⟩
abbrev main_call4_v9 : Ref sig .tc := ⟨.hbm, 149, rfl⟩
abbrev main_call4_v10 : Ref sig .tc := ⟨.hbm, 150, rfl⟩
abbrev main_call4_v11 : Ref sig .tc := ⟨.hbm, 151, rfl⟩
abbrev main_call4_c_3 : Ref sig .tc := ⟨.hbm, 152, rfl⟩
abbrev main_call4_v12 : Ref sig .tc := ⟨.hbm, 153, rfl⟩
abbrev main_call4_v13 : Ref sig .tc := ⟨.hbm, 154, rfl⟩
abbrev main_call4_v14 : Ref sig .tc := ⟨.hbm, 155, rfl⟩
abbrev main_call4_cst : Ref sig .tc := ⟨.hbm, 156, rfl⟩
abbrev main_call4_v15 : Ref sig .tc := ⟨.hbm, 157, rfl⟩
abbrev main_v29 : Ref sig .tc := ⟨.hbm, 158, rfl⟩
abbrev main_v30 : Ref sig .tc := ⟨.hbm, 159, rfl⟩
abbrev main_v31 : Ref sig .tc := ⟨.hbm, 160, rfl⟩
abbrev main_v32 : Ref sig .tc := ⟨.hbm, 161, rfl⟩
abbrev main_v33 : Ref sig .tc := ⟨.hbm, 162, rfl⟩
abbrev main_v34 : Ref sig .tc := ⟨.hbm, 163, rfl⟩
abbrev main_call5_c : Ref sig .tc := ⟨.hbm, 164, rfl⟩
abbrev main_call5_v0 : Ref sig .tc := ⟨.hbm, 165, rfl⟩
abbrev main_call5_v1 : Ref sig .tc := ⟨.hbm, 166, rfl⟩
abbrev main_call5_c_0 : Ref sig .tc := ⟨.hbm, 167, rfl⟩
abbrev main_call5_v2 : Ref sig .tc := ⟨.hbm, 168, rfl⟩
abbrev main_call5_v3 : Ref sig .tc := ⟨.hbm, 169, rfl⟩
abbrev main_call5_v4 : Ref sig .tc := ⟨.hbm, 170, rfl⟩
abbrev main_call5_v5 : Ref sig .tc := ⟨.hbm, 171, rfl⟩
abbrev main_call5_c_1 : Ref sig .tc := ⟨.hbm, 172, rfl⟩
abbrev main_call5_c_2 : Ref sig .tc := ⟨.hbm, 173, rfl⟩
abbrev main_call5_v6 : Ref sig .tc := ⟨.hbm, 174, rfl⟩
abbrev main_call5_v7 : Ref sig .tc := ⟨.hbm, 175, rfl⟩
abbrev main_call5_v8 : Ref sig .tc := ⟨.hbm, 176, rfl⟩
abbrev main_call5_v9 : Ref sig .tc := ⟨.hbm, 177, rfl⟩
abbrev main_call5_v10 : Ref sig .tc := ⟨.hbm, 178, rfl⟩
abbrev main_call5_v11 : Ref sig .tc := ⟨.hbm, 179, rfl⟩
abbrev main_call5_c_3 : Ref sig .tc := ⟨.hbm, 180, rfl⟩
abbrev main_call5_v12 : Ref sig .tc := ⟨.hbm, 181, rfl⟩
abbrev main_call5_v13 : Ref sig .tc := ⟨.hbm, 182, rfl⟩
abbrev main_call5_v14 : Ref sig .tc := ⟨.hbm, 183, rfl⟩
abbrev main_call5_cst : Ref sig .tc := ⟨.hbm, 184, rfl⟩
abbrev main_call5_v15 : Ref sig .tc := ⟨.hbm, 185, rfl⟩
abbrev main_v35 : Ref sig .tc := ⟨.hbm, 186, rfl⟩
abbrev main_v36 : Ref sig .tc := ⟨.hbm, 187, rfl⟩
abbrev main_v37 : Ref sig .tc := ⟨.hbm, 188, rfl⟩
abbrev main_v38 : Ref sig .tc := ⟨.hbm, 189, rfl⟩
abbrev main_v39 : Ref sig .tc := ⟨.hbm, 190, rfl⟩
abbrev main_v40 : Ref sig .tc := ⟨.hbm, 191, rfl⟩
abbrev main_call6_c : Ref sig .tc := ⟨.hbm, 192, rfl⟩
abbrev main_call6_v0 : Ref sig .tc := ⟨.hbm, 193, rfl⟩
abbrev main_call6_v1 : Ref sig .tc := ⟨.hbm, 194, rfl⟩
abbrev main_call6_c_0 : Ref sig .tc := ⟨.hbm, 195, rfl⟩
abbrev main_call6_v2 : Ref sig .tc := ⟨.hbm, 196, rfl⟩
abbrev main_call6_v3 : Ref sig .tc := ⟨.hbm, 197, rfl⟩
abbrev main_call6_v4 : Ref sig .tc := ⟨.hbm, 198, rfl⟩
abbrev main_call6_v5 : Ref sig .tc := ⟨.hbm, 199, rfl⟩
abbrev main_call6_c_1 : Ref sig .tc := ⟨.hbm, 200, rfl⟩
abbrev main_call6_c_2 : Ref sig .tc := ⟨.hbm, 201, rfl⟩
abbrev main_call6_v6 : Ref sig .tc := ⟨.hbm, 202, rfl⟩
abbrev main_call6_v7 : Ref sig .tc := ⟨.hbm, 203, rfl⟩
abbrev main_call6_v8 : Ref sig .tc := ⟨.hbm, 204, rfl⟩
abbrev main_call6_v9 : Ref sig .tc := ⟨.hbm, 205, rfl⟩
abbrev main_call6_v10 : Ref sig .tc := ⟨.hbm, 206, rfl⟩
abbrev main_call6_v11 : Ref sig .tc := ⟨.hbm, 207, rfl⟩
abbrev main_call6_c_3 : Ref sig .tc := ⟨.hbm, 208, rfl⟩
abbrev main_call6_v12 : Ref sig .tc := ⟨.hbm, 209, rfl⟩
abbrev main_call6_v13 : Ref sig .tc := ⟨.hbm, 210, rfl⟩
abbrev main_call6_v14 : Ref sig .tc := ⟨.hbm, 211, rfl⟩
abbrev main_call6_cst : Ref sig .tc := ⟨.hbm, 212, rfl⟩
abbrev main_call6_v15 : Ref sig .tc := ⟨.hbm, 213, rfl⟩
abbrev main_v41 : Ref sig .tc := ⟨.hbm, 214, rfl⟩
abbrev main_v42 : Ref sig .tc := ⟨.hbm, 215, rfl⟩
abbrev main_v43 : Ref sig .tc := ⟨.hbm, 216, rfl⟩
abbrev main_v44 : Ref sig .tc := ⟨.hbm, 217, rfl⟩
abbrev main_v45 : Ref sig .tc := ⟨.hbm, 218, rfl⟩
abbrev main_v46 : Ref sig .tc := ⟨.hbm, 219, rfl⟩
abbrev main_call7_c : Ref sig .tc := ⟨.hbm, 220, rfl⟩
abbrev main_call7_v0 : Ref sig .tc := ⟨.hbm, 221, rfl⟩
abbrev main_call7_v1 : Ref sig .tc := ⟨.hbm, 222, rfl⟩
abbrev main_call7_c_0 : Ref sig .tc := ⟨.hbm, 223, rfl⟩
abbrev main_call7_v2 : Ref sig .tc := ⟨.hbm, 224, rfl⟩
abbrev main_call7_v3 : Ref sig .tc := ⟨.hbm, 225, rfl⟩
abbrev main_call7_v4 : Ref sig .tc := ⟨.hbm, 226, rfl⟩
abbrev main_call7_v5 : Ref sig .tc := ⟨.hbm, 227, rfl⟩
abbrev main_call7_c_1 : Ref sig .tc := ⟨.hbm, 228, rfl⟩
abbrev main_call7_c_2 : Ref sig .tc := ⟨.hbm, 229, rfl⟩
abbrev main_call7_v6 : Ref sig .tc := ⟨.hbm, 230, rfl⟩
abbrev main_call7_v7 : Ref sig .tc := ⟨.hbm, 231, rfl⟩
abbrev main_call7_v8 : Ref sig .tc := ⟨.hbm, 232, rfl⟩
abbrev main_call7_v9 : Ref sig .tc := ⟨.hbm, 233, rfl⟩
abbrev main_call7_v10 : Ref sig .tc := ⟨.hbm, 234, rfl⟩
abbrev main_call7_v11 : Ref sig .tc := ⟨.hbm, 235, rfl⟩
abbrev main_call7_c_3 : Ref sig .tc := ⟨.hbm, 236, rfl⟩
abbrev main_call7_v12 : Ref sig .tc := ⟨.hbm, 237, rfl⟩
abbrev main_call7_v13 : Ref sig .tc := ⟨.hbm, 238, rfl⟩
abbrev main_call7_v14 : Ref sig .tc := ⟨.hbm, 239, rfl⟩
abbrev main_call7_cst : Ref sig .tc := ⟨.hbm, 240, rfl⟩
abbrev main_call7_v15 : Ref sig .tc := ⟨.hbm, 241, rfl⟩
abbrev main_v47 : Ref sig .tc := ⟨.hbm, 242, rfl⟩
abbrev main_v48 : Ref sig .tc := ⟨.hbm, 243, rfl⟩
abbrev main_v49 : Ref sig .tc := ⟨.hbm, 244, rfl⟩
abbrev main_v50 : Ref sig .tc := ⟨.hbm, 245, rfl⟩
abbrev main_v51 : Ref sig .tc := ⟨.hbm, 246, rfl⟩
abbrev main_v52 : Ref sig .tc := ⟨.hbm, 247, rfl⟩
abbrev main_call8_c : Ref sig .tc := ⟨.hbm, 248, rfl⟩
abbrev main_call8_v0 : Ref sig .tc := ⟨.hbm, 249, rfl⟩
abbrev main_call8_v1 : Ref sig .tc := ⟨.hbm, 250, rfl⟩
abbrev main_call8_c_0 : Ref sig .tc := ⟨.hbm, 251, rfl⟩
abbrev main_call8_v2 : Ref sig .tc := ⟨.hbm, 252, rfl⟩
abbrev main_call8_v3 : Ref sig .tc := ⟨.hbm, 253, rfl⟩
abbrev main_call8_v4 : Ref sig .tc := ⟨.hbm, 254, rfl⟩
abbrev main_call8_v5 : Ref sig .tc := ⟨.hbm, 255, rfl⟩
abbrev main_call8_c_1 : Ref sig .tc := ⟨.hbm, 256, rfl⟩
abbrev main_call8_c_2 : Ref sig .tc := ⟨.hbm, 257, rfl⟩
abbrev main_call8_v6 : Ref sig .tc := ⟨.hbm, 258, rfl⟩
abbrev main_call8_v7 : Ref sig .tc := ⟨.hbm, 259, rfl⟩
abbrev main_call8_v8 : Ref sig .tc := ⟨.hbm, 260, rfl⟩
abbrev main_call8_v9 : Ref sig .tc := ⟨.hbm, 261, rfl⟩
abbrev main_call8_v10 : Ref sig .tc := ⟨.hbm, 262, rfl⟩
abbrev main_call8_v11 : Ref sig .tc := ⟨.hbm, 263, rfl⟩
abbrev main_call8_c_3 : Ref sig .tc := ⟨.hbm, 264, rfl⟩
abbrev main_call8_v12 : Ref sig .tc := ⟨.hbm, 265, rfl⟩
abbrev main_call8_v13 : Ref sig .tc := ⟨.hbm, 266, rfl⟩
abbrev main_call8_v14 : Ref sig .tc := ⟨.hbm, 267, rfl⟩
abbrev main_call8_cst : Ref sig .tc := ⟨.hbm, 268, rfl⟩
abbrev main_call8_v15 : Ref sig .tc := ⟨.hbm, 269, rfl⟩
abbrev main_v53 : Ref sig .tc := ⟨.hbm, 270, rfl⟩
abbrev main_v54 : Ref sig .tc := ⟨.hbm, 271, rfl⟩
abbrev main_v55 : Ref sig .tc := ⟨.hbm, 272, rfl⟩
abbrev main_v56 : Ref sig .tc := ⟨.hbm, 273, rfl⟩
abbrev main_v57 : Ref sig .tc := ⟨.hbm, 274, rfl⟩
abbrev main_v58 : Ref sig .tc := ⟨.hbm, 275, rfl⟩
abbrev main_v59 : Ref sig .tc := ⟨.hbm, 276, rfl⟩
abbrev main_v60 : Ref sig .tc := ⟨.hbm, 277, rfl⟩
abbrev main_cst_0 : Ref sig .tc := ⟨.hbm, 278, rfl⟩
abbrev main_v61 : Ref sig .tc := ⟨.hbm, 279, rfl⟩
abbrev main_v62 : Ref sig .tc := ⟨.hbm, 280, rfl⟩
abbrev main_v63 : Ref sig .tc := ⟨.hbm, 281, rfl⟩
abbrev main_v64 : Ref sig .tc := ⟨.hbm, 282, rfl⟩
abbrev main_v65 : Ref sig .tc := ⟨.hbm, 283, rfl⟩
abbrev main_cst_1 : Ref sig .tc := ⟨.hbm, 284, rfl⟩
abbrev main_v66 : Ref sig .tc := ⟨.hbm, 285, rfl⟩
abbrev main_v67 : Ref sig .tc := ⟨.hbm, 286, rfl⟩
abbrev main_v68 : Ref sig .tc := ⟨.hbm, 287, rfl⟩
abbrev main_v69 : Ref sig .tc := ⟨.hbm, 288, rfl⟩
abbrev main_v70 : Ref sig .tc := ⟨.hbm, 289, rfl⟩
abbrev main_call9_c : Ref sig .tc := ⟨.hbm, 290, rfl⟩
abbrev main_call9_v0 : Ref sig .tc := ⟨.hbm, 291, rfl⟩
abbrev main_call9_v1 : Ref sig .tc := ⟨.hbm, 292, rfl⟩
abbrev main_call9_c_0 : Ref sig .tc := ⟨.hbm, 293, rfl⟩
abbrev main_call9_v2 : Ref sig .tc := ⟨.hbm, 294, rfl⟩
abbrev main_call9_v3 : Ref sig .tc := ⟨.hbm, 295, rfl⟩
abbrev main_call9_v4 : Ref sig .tc := ⟨.hbm, 296, rfl⟩
abbrev main_call9_v5 : Ref sig .tc := ⟨.hbm, 297, rfl⟩
abbrev main_call9_c_1 : Ref sig .tc := ⟨.hbm, 298, rfl⟩
abbrev main_call9_c_2 : Ref sig .tc := ⟨.hbm, 299, rfl⟩
abbrev main_call9_v6 : Ref sig .tc := ⟨.hbm, 300, rfl⟩
abbrev main_call9_v7 : Ref sig .tc := ⟨.hbm, 301, rfl⟩
abbrev main_call9_v8 : Ref sig .tc := ⟨.hbm, 302, rfl⟩
abbrev main_call9_v9 : Ref sig .tc := ⟨.hbm, 303, rfl⟩
abbrev main_call9_v10 : Ref sig .tc := ⟨.hbm, 304, rfl⟩
abbrev main_call9_v11 : Ref sig .tc := ⟨.hbm, 305, rfl⟩
abbrev main_call9_c_3 : Ref sig .tc := ⟨.hbm, 306, rfl⟩
abbrev main_call9_v12 : Ref sig .tc := ⟨.hbm, 307, rfl⟩
abbrev main_call9_v13 : Ref sig .tc := ⟨.hbm, 308, rfl⟩
abbrev main_call9_v14 : Ref sig .tc := ⟨.hbm, 309, rfl⟩
abbrev main_call9_cst : Ref sig .tc := ⟨.hbm, 310, rfl⟩
abbrev main_call9_v15 : Ref sig .tc := ⟨.hbm, 311, rfl⟩
abbrev main_v71 : Ref sig .tc := ⟨.hbm, 312, rfl⟩
abbrev main_v72 : Ref sig .tc := ⟨.hbm, 313, rfl⟩
abbrev main_v73 : Ref sig .tc := ⟨.hbm, 314, rfl⟩
abbrev main_v74 : Ref sig .tc := ⟨.hbm, 315, rfl⟩
abbrev main_v75 : Ref sig .tc := ⟨.hbm, 316, rfl⟩
abbrev main_v76 : Ref sig .tc := ⟨.hbm, 317, rfl⟩
abbrev main_call10_c : Ref sig .tc := ⟨.hbm, 318, rfl⟩
abbrev main_call10_v0 : Ref sig .tc := ⟨.hbm, 319, rfl⟩
abbrev main_call10_v1 : Ref sig .tc := ⟨.hbm, 320, rfl⟩
abbrev main_call10_c_0 : Ref sig .tc := ⟨.hbm, 321, rfl⟩
abbrev main_call10_v2 : Ref sig .tc := ⟨.hbm, 322, rfl⟩
abbrev main_call10_v3 : Ref sig .tc := ⟨.hbm, 323, rfl⟩
abbrev main_call10_v4 : Ref sig .tc := ⟨.hbm, 324, rfl⟩
abbrev main_call10_v5 : Ref sig .tc := ⟨.hbm, 325, rfl⟩
abbrev main_call10_c_1 : Ref sig .tc := ⟨.hbm, 326, rfl⟩
abbrev main_call10_c_2 : Ref sig .tc := ⟨.hbm, 327, rfl⟩
abbrev main_call10_v6 : Ref sig .tc := ⟨.hbm, 328, rfl⟩
abbrev main_call10_v7 : Ref sig .tc := ⟨.hbm, 329, rfl⟩
abbrev main_call10_v8 : Ref sig .tc := ⟨.hbm, 330, rfl⟩
abbrev main_call10_v9 : Ref sig .tc := ⟨.hbm, 331, rfl⟩
abbrev main_call10_v10 : Ref sig .tc := ⟨.hbm, 332, rfl⟩
abbrev main_call10_v11 : Ref sig .tc := ⟨.hbm, 333, rfl⟩
abbrev main_call10_c_3 : Ref sig .tc := ⟨.hbm, 334, rfl⟩
abbrev main_call10_v12 : Ref sig .tc := ⟨.hbm, 335, rfl⟩
abbrev main_call10_v13 : Ref sig .tc := ⟨.hbm, 336, rfl⟩
abbrev main_call10_v14 : Ref sig .tc := ⟨.hbm, 337, rfl⟩
abbrev main_call10_cst : Ref sig .tc := ⟨.hbm, 338, rfl⟩
abbrev main_call10_v15 : Ref sig .tc := ⟨.hbm, 339, rfl⟩
abbrev main_v77 : Ref sig .tc := ⟨.hbm, 340, rfl⟩
abbrev main_v78 : Ref sig .tc := ⟨.hbm, 341, rfl⟩
abbrev main_v79 : Ref sig .tc := ⟨.hbm, 342, rfl⟩
abbrev main_v80 : Ref sig .tc := ⟨.hbm, 343, rfl⟩
abbrev main_v81 : Ref sig .tc := ⟨.hbm, 344, rfl⟩
abbrev main_v82 : Ref sig .tc := ⟨.hbm, 345, rfl⟩
abbrev main_call11_c : Ref sig .tc := ⟨.hbm, 346, rfl⟩
abbrev main_call11_v0 : Ref sig .tc := ⟨.hbm, 347, rfl⟩
abbrev main_call11_v1 : Ref sig .tc := ⟨.hbm, 348, rfl⟩
abbrev main_call11_c_0 : Ref sig .tc := ⟨.hbm, 349, rfl⟩
abbrev main_call11_v2 : Ref sig .tc := ⟨.hbm, 350, rfl⟩
abbrev main_call11_v3 : Ref sig .tc := ⟨.hbm, 351, rfl⟩
abbrev main_call11_v4 : Ref sig .tc := ⟨.hbm, 352, rfl⟩
abbrev main_call11_v5 : Ref sig .tc := ⟨.hbm, 353, rfl⟩
abbrev main_call11_c_1 : Ref sig .tc := ⟨.hbm, 354, rfl⟩
abbrev main_call11_c_2 : Ref sig .tc := ⟨.hbm, 355, rfl⟩
abbrev main_call11_v6 : Ref sig .tc := ⟨.hbm, 356, rfl⟩
abbrev main_call11_v7 : Ref sig .tc := ⟨.hbm, 357, rfl⟩
abbrev main_call11_v8 : Ref sig .tc := ⟨.hbm, 358, rfl⟩
abbrev main_call11_v9 : Ref sig .tc := ⟨.hbm, 359, rfl⟩
abbrev main_call11_v10 : Ref sig .tc := ⟨.hbm, 360, rfl⟩
abbrev main_call11_v11 : Ref sig .tc := ⟨.hbm, 361, rfl⟩
abbrev main_call11_c_3 : Ref sig .tc := ⟨.hbm, 362, rfl⟩
abbrev main_call11_v12 : Ref sig .tc := ⟨.hbm, 363, rfl⟩
abbrev main_call11_v13 : Ref sig .tc := ⟨.hbm, 364, rfl⟩
abbrev main_call11_v14 : Ref sig .tc := ⟨.hbm, 365, rfl⟩
abbrev main_call11_cst : Ref sig .tc := ⟨.hbm, 366, rfl⟩
abbrev main_call11_v15 : Ref sig .tc := ⟨.hbm, 367, rfl⟩
abbrev main_v83 : Ref sig .tc := ⟨.hbm, 368, rfl⟩
abbrev main_v84 : Ref sig .tc := ⟨.hbm, 369, rfl⟩
abbrev main_v85 : Ref sig .tc := ⟨.hbm, 370, rfl⟩
abbrev main_v86 : Ref sig .tc := ⟨.hbm, 371, rfl⟩
abbrev main_v87 : Ref sig .tc := ⟨.hbm, 372, rfl⟩
abbrev main_v88 : Ref sig .tc := ⟨.hbm, 373, rfl⟩
abbrev main_v89 : Ref sig .tc := ⟨.hbm, 374, rfl⟩
abbrev main_v90 : Ref sig .tc := ⟨.hbm, 375, rfl⟩
abbrev main_v91 : Ref sig .tc := ⟨.hbm, 376, rfl⟩
abbrev main_cst_2 : Ref sig .tc := ⟨.hbm, 377, rfl⟩
abbrev main_v92 : Ref sig .tc := ⟨.hbm, 378, rfl⟩
abbrev main_cst_3 : Ref sig .tc := ⟨.hbm, 379, rfl⟩
abbrev main_v93 : Ref sig .tc := ⟨.hbm, 380, rfl⟩
abbrev main_v94 : Ref sig .tc := ⟨.hbm, 381, rfl⟩
abbrev main_v95 : Ref sig .tc := ⟨.hbm, 382, rfl⟩
abbrev main_v96 : Ref sig .tc := ⟨.hbm, 383, rfl⟩
abbrev main_v97 : Ref sig .tc := ⟨.hbm, 384, rfl⟩
abbrev main_v98 : Ref sig .tc := ⟨.hbm, 385, rfl⟩
abbrev main_v99 : Ref sig .tc := ⟨.hbm, 386, rfl⟩
abbrev main_v100 : Ref sig .tc := ⟨.hbm, 387, rfl⟩
abbrev main_v101 : Ref sig .tc := ⟨.hbm, 388, rfl⟩
abbrev main_cst_4 : Ref sig .tc := ⟨.hbm, 389, rfl⟩
abbrev main_v102 : Ref sig .tc := ⟨.hbm, 390, rfl⟩
abbrev main_v103 : Ref sig .tc := ⟨.hbm, 391, rfl⟩
abbrev main_v104 : Ref sig .tc := ⟨.hbm, 392, rfl⟩
abbrev main_v105 : Ref sig .tc := ⟨.hbm, 393, rfl⟩
abbrev main_v106 : Ref sig .tc := ⟨.hbm, 394, rfl⟩
abbrev main_v107 : Ref sig .tc := ⟨.hbm, 395, rfl⟩
abbrev main_v108 : Ref sig .tc := ⟨.hbm, 396, rfl⟩
abbrev main_v109 : Ref sig .tc := ⟨.hbm, 397, rfl⟩
abbrev main_c : Ref sig .tc := ⟨.hbm, 398, rfl⟩
abbrev main_v110 : Ref sig .tc := ⟨.hbm, 399, rfl⟩
abbrev main_v111 : Ref sig .tc := ⟨.hbm, 400, rfl⟩
abbrev main_c_5 : Ref sig .tc := ⟨.hbm, 401, rfl⟩
abbrev main_v112 : Ref sig .tc := ⟨.hbm, 402, rfl⟩
abbrev main_v113 : Ref sig .tc := ⟨.hbm, 403, rfl⟩
abbrev main_v114 : Ref sig .tc := ⟨.hbm, 404, rfl⟩
abbrev main_v115 : Ref sig .tc := ⟨.hbm, 405, rfl⟩
abbrev main_v116 : Ref sig .tc := ⟨.hbm, 406, rfl⟩
abbrev main_c_6 : Ref sig .tc := ⟨.hbm, 407, rfl⟩
abbrev main_v117 : Ref sig .tc := ⟨.hbm, 408, rfl⟩
abbrev main_v118 : Ref sig .tc := ⟨.hbm, 409, rfl⟩
abbrev main_v119 : Ref sig .tc := ⟨.hbm, 410, rfl⟩
abbrev main_c_7 : Ref sig .tc := ⟨.hbm, 411, rfl⟩
abbrev main_v120 : Ref sig .tc := ⟨.hbm, 412, rfl⟩
abbrev main_v121 : Ref sig .tc := ⟨.hbm, 413, rfl⟩
abbrev main_v122 : Ref sig .tc := ⟨.hbm, 414, rfl⟩
abbrev main_c_8 : Ref sig .tc := ⟨.hbm, 415, rfl⟩
abbrev main_v123 : Ref sig .tc := ⟨.hbm, 416, rfl⟩
abbrev main_v124 : Ref sig .tc := ⟨.hbm, 417, rfl⟩
abbrev main_c_9 : Ref sig .tc := ⟨.hbm, 418, rfl⟩
abbrev main_v125 : Ref sig .tc := ⟨.hbm, 419, rfl⟩
abbrev main_v126 : Ref sig .tc := ⟨.hbm, 420, rfl⟩
abbrev main_v127 : Ref sig .tc := ⟨.hbm, 421, rfl⟩
abbrev main_c_10 : Ref sig .tc := ⟨.hbm, 422, rfl⟩
abbrev main_v128 : Ref sig .tc := ⟨.hbm, 423, rfl⟩
abbrev main_v129 : Ref sig .tc := ⟨.hbm, 424, rfl⟩
abbrev main_c_11 : Ref sig .tc := ⟨.hbm, 425, rfl⟩
abbrev main_v130 : Ref sig .tc := ⟨.hbm, 426, rfl⟩
abbrev main_v131 : Ref sig .tc := ⟨.hbm, 427, rfl⟩
abbrev main_v132 : Ref sig .tc := ⟨.hbm, 428, rfl⟩
abbrev main_c_12 : Ref sig .tc := ⟨.hbm, 429, rfl⟩
abbrev main_v133 : Ref sig .tc := ⟨.hbm, 430, rfl⟩
abbrev main_v134 : Ref sig .tc := ⟨.hbm, 431, rfl⟩
abbrev main_c_13 : Ref sig .tc := ⟨.hbm, 432, rfl⟩
abbrev main_v135 : Ref sig .tc := ⟨.hbm, 433, rfl⟩
abbrev main_v136 : Ref sig .tc := ⟨.hbm, 434, rfl⟩
abbrev main_v137 : Ref sig .tc := ⟨.hbm, 435, rfl⟩
abbrev main_v138 : Ref sig .tc := ⟨.hbm, 436, rfl⟩
abbrev main_v139 : Ref sig .tc := ⟨.hbm, 437, rfl⟩
abbrev main_v140 : Ref sig .tc := ⟨.hbm, 438, rfl⟩
abbrev main_v141 : Ref sig .tc := ⟨.hbm, 439, rfl⟩
abbrev main_v142 : Ref sig .tc := ⟨.hbm, 440, rfl⟩
abbrev main_v143 : Ref sig .tc := ⟨.hbm, 441, rfl⟩
abbrev main_cst_14 : Ref sig .tc := ⟨.hbm, 442, rfl⟩
abbrev main_v144 : Ref sig .tc := ⟨.hbm, 443, rfl⟩
abbrev main_v145 : Ref sig .tc := ⟨.hbm, 444, rfl⟩
abbrev main_cst_15 : Ref sig .tc := ⟨.hbm, 445, rfl⟩
abbrev main_v146 : Ref sig .tc := ⟨.hbm, 446, rfl⟩
abbrev main_v147 : Ref sig .tc := ⟨.hbm, 447, rfl⟩
abbrev main_v148 : Ref sig .tc := ⟨.hbm, 448, rfl⟩
abbrev main_v149 : Ref sig .tc := ⟨.hbm, 449, rfl⟩
abbrev main_v150 : Ref sig .tc := ⟨.hbm, 450, rfl⟩
abbrev main_cst_16 : Ref sig .tc := ⟨.hbm, 451, rfl⟩
abbrev main_v151 : Ref sig .tc := ⟨.hbm, 452, rfl⟩
abbrev main_v152 : Ref sig .tc := ⟨.hbm, 453, rfl⟩
abbrev main_cst_17 : Ref sig .tc := ⟨.hbm, 454, rfl⟩
abbrev main_v153 : Ref sig .tc := ⟨.hbm, 455, rfl⟩
abbrev main_v154 : Ref sig .tc := ⟨.hbm, 456, rfl⟩
abbrev main_v155 : Ref sig .tc := ⟨.hbm, 457, rfl⟩
abbrev main_v156 : Ref sig .tc := ⟨.hbm, 458, rfl⟩
abbrev main_cst_18 : Ref sig .tc := ⟨.hbm, 459, rfl⟩
abbrev main_v157 : Ref sig .tc := ⟨.hbm, 460, rfl⟩
abbrev main_v158 : Ref sig .tc := ⟨.hbm, 461, rfl⟩
abbrev main_v159 : Ref sig .tc := ⟨.hbm, 462, rfl⟩
abbrev main_v160 : Ref sig .tc := ⟨.hbm, 463, rfl⟩
abbrev main_v161 : Ref sig .tc := ⟨.hbm, 464, rfl⟩
abbrev main_v162 : Ref sig .tc := ⟨.hbm, 465, rfl⟩
abbrev main_v163 : Ref sig .tc := ⟨.hbm, 466, rfl⟩
abbrev main_v164 : Ref sig .tc := ⟨.hbm, 467, rfl⟩
abbrev main_v165 : Ref sig .tc := ⟨.hbm, 468, rfl⟩
abbrev main_v166 : Ref sig .tc := ⟨.hbm, 469, rfl⟩
abbrev main_v167 : Ref sig .tc := ⟨.hbm, 470, rfl⟩
abbrev main_v168 : Ref sig .tc := ⟨.hbm, 471, rfl⟩
abbrev main_v169 : Ref sig .tc := ⟨.hbm, 472, rfl⟩
abbrev main_v170 : Ref sig .tc := ⟨.hbm, 473, rfl⟩
abbrev main_v171 : Ref sig .tc := ⟨.hbm, 474, rfl⟩
abbrev main_v172 : Ref sig .tc := ⟨.hbm, 475, rfl⟩
abbrev main_v173 : Ref sig .tc := ⟨.hbm, 476, rfl⟩
abbrev main_v174 : Ref sig .tc := ⟨.hbm, 477, rfl⟩
abbrev main_cst_19 : Ref sig .tc := ⟨.hbm, 478, rfl⟩
abbrev main_v175 : Ref sig .tc := ⟨.hbm, 479, rfl⟩
abbrev main_v176 : Ref sig .tc := ⟨.hbm, 480, rfl⟩
abbrev main_v177 : Ref sig .tc := ⟨.hbm, 481, rfl⟩
abbrev main_v178 : Ref sig .tc := ⟨.hbm, 482, rfl⟩
abbrev main_v179 : Ref sig .tc := ⟨.hbm, 483, rfl⟩
abbrev main_v180 : Ref sig .tc := ⟨.hbm, 484, rfl⟩
abbrev main_v181 : Ref sig .tc := ⟨.hbm, 485, rfl⟩
abbrev main_cst_20 : Ref sig .tc := ⟨.hbm, 486, rfl⟩
abbrev main_v182 : Ref sig .tc := ⟨.hbm, 487, rfl⟩
abbrev main_cst_21 : Ref sig .tc := ⟨.hbm, 488, rfl⟩
abbrev main_v183 : Ref sig .tc := ⟨.hbm, 489, rfl⟩
abbrev main_v184 : Ref sig .tc := ⟨.hbm, 490, rfl⟩
abbrev main_v185 : Ref sig .tc := ⟨.hbm, 491, rfl⟩
abbrev main_v186 : Ref sig .tc := ⟨.hbm, 492, rfl⟩
abbrev main_v187 : Ref sig .tc := ⟨.hbm, 493, rfl⟩
abbrev main_v188 : Ref sig .tc := ⟨.hbm, 494, rfl⟩
abbrev main_cst_22 : Ref sig .tc := ⟨.hbm, 495, rfl⟩
abbrev main_v189 : Ref sig .tc := ⟨.hbm, 496, rfl⟩
abbrev main_v190 : Ref sig .tc := ⟨.hbm, 497, rfl⟩
abbrev main_v191 : Ref sig .tc := ⟨.hbm, 498, rfl⟩
abbrev main_v192 : Ref sig .tc := ⟨.hbm, 499, rfl⟩
abbrev main_v193 : Ref sig .tc := ⟨.hbm, 500, rfl⟩
abbrev main_v194 : Ref sig .tc := ⟨.hbm, 501, rfl⟩
abbrev main_v195 : Ref sig .tc := ⟨.hbm, 502, rfl⟩
abbrev main_v196 : Ref sig .tc := ⟨.hbm, 503, rfl⟩
abbrev main_v197 : Ref sig .tc := ⟨.hbm, 504, rfl⟩
abbrev main_v198 : Ref sig .tc := ⟨.hbm, 505, rfl⟩
abbrev main_v199 : Ref sig .tc := ⟨.hbm, 506, rfl⟩
abbrev main_v200 : Ref sig .tc := ⟨.hbm, 507, rfl⟩
abbrev main_v201 : Ref sig .tc := ⟨.hbm, 508, rfl⟩
abbrev main_v202 : Ref sig .tc := ⟨.hbm, 509, rfl⟩
abbrev main_v203 : Ref sig .tc := ⟨.hbm, 510, rfl⟩
abbrev main_v204 : Ref sig .tc := ⟨.hbm, 511, rfl⟩
abbrev main_v205 : Ref sig .tc := ⟨.hbm, 512, rfl⟩
abbrev main_call12_cst : Ref sig .tc := ⟨.hbm, 513, rfl⟩
abbrev main_call12_v0 : Ref sig .tc := ⟨.hbm, 514, rfl⟩
abbrev main_v206 : Ref sig .tc := ⟨.hbm, 515, rfl⟩
abbrev main_v207 : Ref sig .tc := ⟨.hbm, 516, rfl⟩
abbrev main_v208 : Ref sig .tc := ⟨.hbm, 517, rfl⟩
abbrev main_v209 : Ref sig .tc := ⟨.hbm, 518, rfl⟩
abbrev main_v210 : Ref sig .tc := ⟨.hbm, 519, rfl⟩
abbrev main_cst_23 : Ref sig .tc := ⟨.hbm, 520, rfl⟩
abbrev main_v211 : Ref sig .tc := ⟨.hbm, 521, rfl⟩
abbrev main_v212 : Ref sig .tc := ⟨.hbm, 522, rfl⟩
abbrev main_cst_24 : Ref sig .tc := ⟨.hbm, 523, rfl⟩
abbrev main_v213 : Ref sig .tc := ⟨.hbm, 524, rfl⟩
abbrev main_v214 : Ref sig .tc := ⟨.hbm, 525, rfl⟩
abbrev main_v215 : Ref sig .tc := ⟨.hbm, 526, rfl⟩
abbrev main_v216 : Ref sig .tc := ⟨.hbm, 527, rfl⟩
abbrev main_v217 : Ref sig .tc := ⟨.hbm, 528, rfl⟩
abbrev main_cst_25 : Ref sig .tc := ⟨.hbm, 529, rfl⟩
abbrev main_v218 : Ref sig .tc := ⟨.hbm, 530, rfl⟩
abbrev main_v219 : Ref sig .tc := ⟨.hbm, 531, rfl⟩
abbrev main_cst_26 : Ref sig .tc := ⟨.hbm, 532, rfl⟩
abbrev main_v220 : Ref sig .tc := ⟨.hbm, 533, rfl⟩
abbrev main_v221 : Ref sig .tc := ⟨.hbm, 534, rfl⟩
abbrev main_v222 : Ref sig .tc := ⟨.hbm, 535, rfl⟩
abbrev main_v223 : Ref sig .tc := ⟨.hbm, 536, rfl⟩
abbrev main_cst_27 : Ref sig .tc := ⟨.hbm, 537, rfl⟩
abbrev main_v224 : Ref sig .tc := ⟨.hbm, 538, rfl⟩
abbrev main_v225 : Ref sig .tc := ⟨.hbm, 539, rfl⟩
abbrev main_v226 : Ref sig .tc := ⟨.hbm, 540, rfl⟩
abbrev main_v227 : Ref sig .tc := ⟨.hbm, 541, rfl⟩
abbrev main_v228 : Ref sig .tc := ⟨.hbm, 542, rfl⟩
abbrev main_v229 : Ref sig .tc := ⟨.hbm, 543, rfl⟩
abbrev main_v230 : Ref sig .tc := ⟨.hbm, 544, rfl⟩
abbrev main_v231 : Ref sig .tc := ⟨.hbm, 545, rfl⟩
abbrev main_v232 : Ref sig .tc := ⟨.hbm, 546, rfl⟩
abbrev main_v233 : Ref sig .tc := ⟨.hbm, 547, rfl⟩
abbrev main_v234 : Ref sig .tc := ⟨.hbm, 548, rfl⟩
abbrev main_v235 : Ref sig .tc := ⟨.hbm, 549, rfl⟩
abbrev main_v236 : Ref sig .tc := ⟨.hbm, 550, rfl⟩
abbrev main_v237 : Ref sig .tc := ⟨.hbm, 551, rfl⟩
abbrev main_v238 : Ref sig .tc := ⟨.hbm, 552, rfl⟩
abbrev main_v239 : Ref sig .tc := ⟨.hbm, 553, rfl⟩
abbrev main_v240 : Ref sig .tc := ⟨.hbm, 554, rfl⟩
abbrev main_v241 : Ref sig .tc := ⟨.hbm, 555, rfl⟩
abbrev main_cst_28 : Ref sig .tc := ⟨.hbm, 556, rfl⟩
abbrev main_v242 : Ref sig .tc := ⟨.hbm, 557, rfl⟩
abbrev main_v243 : Ref sig .tc := ⟨.hbm, 558, rfl⟩
abbrev main_v244 : Ref sig .tc := ⟨.hbm, 559, rfl⟩
abbrev main_v245 : Ref sig .tc := ⟨.hbm, 560, rfl⟩
abbrev main_v246 : Ref sig .tc := ⟨.hbm, 561, rfl⟩
abbrev main_v247 : Ref sig .tc := ⟨.hbm, 562, rfl⟩
abbrev main_v248 : Ref sig .tc := ⟨.hbm, 563, rfl⟩
abbrev main_cst_29 : Ref sig .tc := ⟨.hbm, 564, rfl⟩
abbrev main_v249 : Ref sig .tc := ⟨.hbm, 565, rfl⟩
abbrev main_cst_30 : Ref sig .tc := ⟨.hbm, 566, rfl⟩
abbrev main_v250 : Ref sig .tc := ⟨.hbm, 567, rfl⟩
abbrev main_v251 : Ref sig .tc := ⟨.hbm, 568, rfl⟩
abbrev main_v252 : Ref sig .tc := ⟨.hbm, 569, rfl⟩
abbrev main_v253 : Ref sig .tc := ⟨.hbm, 570, rfl⟩
abbrev main_v254 : Ref sig .tc := ⟨.hbm, 571, rfl⟩
abbrev main_v255 : Ref sig .tc := ⟨.hbm, 572, rfl⟩
abbrev main_cst_31 : Ref sig .tc := ⟨.hbm, 573, rfl⟩
abbrev main_v256 : Ref sig .tc := ⟨.hbm, 574, rfl⟩
abbrev main_v257 : Ref sig .tc := ⟨.hbm, 575, rfl⟩
abbrev main_v258 : Ref sig .tc := ⟨.hbm, 576, rfl⟩
abbrev main_v259 : Ref sig .tc := ⟨.hbm, 577, rfl⟩
abbrev main_v260 : Ref sig .tc := ⟨.hbm, 578, rfl⟩
abbrev main_v261 : Ref sig .tc := ⟨.hbm, 579, rfl⟩
abbrev main_v262 : Ref sig .tc := ⟨.hbm, 580, rfl⟩
abbrev main_v263 : Ref sig .tc := ⟨.hbm, 581, rfl⟩
abbrev main_v264 : Ref sig .tc := ⟨.hbm, 582, rfl⟩
abbrev main_v265 : Ref sig .tc := ⟨.hbm, 583, rfl⟩
abbrev main_v266 : Ref sig .tc := ⟨.hbm, 584, rfl⟩
abbrev main_v267 : Ref sig .tc := ⟨.hbm, 585, rfl⟩
abbrev main_v268 : Ref sig .tc := ⟨.hbm, 586, rfl⟩
abbrev main_v269 : Ref sig .tc := ⟨.hbm, 587, rfl⟩
abbrev main_v270 : Ref sig .tc := ⟨.hbm, 588, rfl⟩
abbrev main_v271 : Ref sig .tc := ⟨.hbm, 589, rfl⟩
abbrev main_v272 : Ref sig .tc := ⟨.hbm, 590, rfl⟩
abbrev main_call13_cst : Ref sig .tc := ⟨.hbm, 591, rfl⟩
abbrev main_call13_v0 : Ref sig .tc := ⟨.hbm, 592, rfl⟩
abbrev main_v273 : Ref sig .tc := ⟨.hbm, 593, rfl⟩
abbrev main_v274 : Ref sig .tc := ⟨.hbm, 594, rfl⟩
abbrev main_v275 : Ref sig .tc := ⟨.hbm, 595, rfl⟩
abbrev main_v276 : Ref sig .tc := ⟨.hbm, 596, rfl⟩
abbrev main_v277 : Ref sig .tc := ⟨.hbm, 597, rfl⟩
abbrev main_cst_32 : Ref sig .tc := ⟨.hbm, 598, rfl⟩
abbrev main_v278 : Ref sig .tc := ⟨.hbm, 599, rfl⟩
abbrev main_v279 : Ref sig .tc := ⟨.hbm, 600, rfl⟩
abbrev main_cst_33 : Ref sig .tc := ⟨.hbm, 601, rfl⟩
abbrev main_v280 : Ref sig .tc := ⟨.hbm, 602, rfl⟩
abbrev main_v281 : Ref sig .tc := ⟨.hbm, 603, rfl⟩
abbrev main_v282 : Ref sig .tc := ⟨.hbm, 604, rfl⟩
abbrev main_v283 : Ref sig .tc := ⟨.hbm, 605, rfl⟩
abbrev main_v284 : Ref sig .tc := ⟨.hbm, 606, rfl⟩
abbrev main_cst_34 : Ref sig .tc := ⟨.hbm, 607, rfl⟩
abbrev main_v285 : Ref sig .tc := ⟨.hbm, 608, rfl⟩
abbrev main_v286 : Ref sig .tc := ⟨.hbm, 609, rfl⟩
abbrev main_cst_35 : Ref sig .tc := ⟨.hbm, 610, rfl⟩
abbrev main_v287 : Ref sig .tc := ⟨.hbm, 611, rfl⟩
abbrev main_v288 : Ref sig .tc := ⟨.hbm, 612, rfl⟩
abbrev main_v289 : Ref sig .tc := ⟨.hbm, 613, rfl⟩
abbrev main_v290 : Ref sig .tc := ⟨.hbm, 614, rfl⟩
abbrev main_cst_36 : Ref sig .tc := ⟨.hbm, 615, rfl⟩
abbrev main_v291 : Ref sig .tc := ⟨.hbm, 616, rfl⟩
abbrev main_v292 : Ref sig .tc := ⟨.hbm, 617, rfl⟩
abbrev main_v293 : Ref sig .tc := ⟨.hbm, 618, rfl⟩
abbrev main_v294 : Ref sig .tc := ⟨.hbm, 619, rfl⟩
abbrev main_v295 : Ref sig .tc := ⟨.hbm, 620, rfl⟩
abbrev main_v296 : Ref sig .tc := ⟨.hbm, 621, rfl⟩
abbrev main_v297 : Ref sig .tc := ⟨.hbm, 622, rfl⟩
abbrev main_v298 : Ref sig .tc := ⟨.hbm, 623, rfl⟩
abbrev main_v299 : Ref sig .tc := ⟨.hbm, 624, rfl⟩
abbrev main_v300 : Ref sig .tc := ⟨.hbm, 625, rfl⟩
abbrev main_v301 : Ref sig .tc := ⟨.hbm, 626, rfl⟩
abbrev main_v302 : Ref sig .tc := ⟨.hbm, 627, rfl⟩
abbrev main_v303 : Ref sig .tc := ⟨.hbm, 628, rfl⟩
abbrev main_v304 : Ref sig .tc := ⟨.hbm, 629, rfl⟩
abbrev main_v305 : Ref sig .tc := ⟨.hbm, 630, rfl⟩
abbrev main_v306 : Ref sig .tc := ⟨.hbm, 631, rfl⟩
abbrev main_v307 : Ref sig .tc := ⟨.hbm, 632, rfl⟩
abbrev main_v308 : Ref sig .tc := ⟨.hbm, 633, rfl⟩
abbrev main_cst_37 : Ref sig .tc := ⟨.hbm, 634, rfl⟩
abbrev main_v309 : Ref sig .tc := ⟨.hbm, 635, rfl⟩
abbrev main_v310 : Ref sig .tc := ⟨.hbm, 636, rfl⟩
abbrev main_v311 : Ref sig .tc := ⟨.hbm, 637, rfl⟩
abbrev main_v312 : Ref sig .tc := ⟨.hbm, 638, rfl⟩
abbrev main_v313 : Ref sig .tc := ⟨.hbm, 639, rfl⟩
abbrev main_v314 : Ref sig .tc := ⟨.hbm, 640, rfl⟩
abbrev main_v315 : Ref sig .tc := ⟨.hbm, 641, rfl⟩
abbrev main_cst_38 : Ref sig .tc := ⟨.hbm, 642, rfl⟩
abbrev main_v316 : Ref sig .tc := ⟨.hbm, 643, rfl⟩
abbrev main_cst_39 : Ref sig .tc := ⟨.hbm, 644, rfl⟩
abbrev main_v317 : Ref sig .tc := ⟨.hbm, 645, rfl⟩
abbrev main_v318 : Ref sig .tc := ⟨.hbm, 646, rfl⟩
abbrev main_v319 : Ref sig .tc := ⟨.hbm, 647, rfl⟩
abbrev main_v320 : Ref sig .tc := ⟨.hbm, 648, rfl⟩
abbrev main_v321 : Ref sig .tc := ⟨.hbm, 649, rfl⟩
abbrev main_v322 : Ref sig .tc := ⟨.hbm, 650, rfl⟩
abbrev main_cst_40 : Ref sig .tc := ⟨.hbm, 651, rfl⟩
abbrev main_v323 : Ref sig .tc := ⟨.hbm, 652, rfl⟩
abbrev main_v324 : Ref sig .tc := ⟨.hbm, 653, rfl⟩
abbrev main_v325 : Ref sig .tc := ⟨.hbm, 654, rfl⟩
abbrev main_v326 : Ref sig .tc := ⟨.hbm, 655, rfl⟩
abbrev main_v327 : Ref sig .tc := ⟨.hbm, 656, rfl⟩
abbrev main_v328 : Ref sig .tc := ⟨.hbm, 657, rfl⟩
abbrev main_v329 : Ref sig .tc := ⟨.hbm, 658, rfl⟩
abbrev main_v330 : Ref sig .tc := ⟨.hbm, 659, rfl⟩
abbrev main_v331 : Ref sig .tc := ⟨.hbm, 660, rfl⟩
abbrev main_v332 : Ref sig .tc := ⟨.hbm, 661, rfl⟩
abbrev main_v333 : Ref sig .tc := ⟨.hbm, 662, rfl⟩
abbrev main_v334 : Ref sig .tc := ⟨.hbm, 663, rfl⟩
abbrev main_v335 : Ref sig .tc := ⟨.hbm, 664, rfl⟩
abbrev main_v336 : Ref sig .tc := ⟨.hbm, 665, rfl⟩
abbrev main_v337 : Ref sig .tc := ⟨.hbm, 666, rfl⟩
abbrev main_v338 : Ref sig .tc := ⟨.hbm, 667, rfl⟩
abbrev main_v339 : Ref sig .tc := ⟨.hbm, 668, rfl⟩
abbrev main_call14_cst : Ref sig .tc := ⟨.hbm, 669, rfl⟩
abbrev main_call14_v0 : Ref sig .tc := ⟨.hbm, 670, rfl⟩
abbrev main_v340 : Ref sig .tc := ⟨.hbm, 671, rfl⟩
abbrev main_v341 : Ref sig .tc := ⟨.hbm, 672, rfl⟩
abbrev main_v342 : Ref sig .tc := ⟨.hbm, 673, rfl⟩
abbrev main_v343 : Ref sig .tc := ⟨.hbm, 674, rfl⟩
abbrev main_v344 : Ref sig .tc := ⟨.hbm, 675, rfl⟩
abbrev main_cst_41 : Ref sig .tc := ⟨.hbm, 676, rfl⟩
abbrev main_v345 : Ref sig .tc := ⟨.hbm, 677, rfl⟩
abbrev main_v346 : Ref sig .tc := ⟨.hbm, 678, rfl⟩
abbrev main_cst_42 : Ref sig .tc := ⟨.hbm, 679, rfl⟩
abbrev main_v347 : Ref sig .tc := ⟨.hbm, 680, rfl⟩
abbrev main_v348 : Ref sig .tc := ⟨.hbm, 681, rfl⟩
abbrev main_v349 : Ref sig .tc := ⟨.hbm, 682, rfl⟩
abbrev main_v350 : Ref sig .tc := ⟨.hbm, 683, rfl⟩
abbrev main_v351 : Ref sig .tc := ⟨.hbm, 684, rfl⟩
abbrev main_cst_43 : Ref sig .tc := ⟨.hbm, 685, rfl⟩
abbrev main_v352 : Ref sig .tc := ⟨.hbm, 686, rfl⟩
abbrev main_v353 : Ref sig .tc := ⟨.hbm, 687, rfl⟩
abbrev main_cst_44 : Ref sig .tc := ⟨.hbm, 688, rfl⟩
abbrev main_v354 : Ref sig .tc := ⟨.hbm, 689, rfl⟩
abbrev main_v355 : Ref sig .tc := ⟨.hbm, 690, rfl⟩
abbrev main_v356 : Ref sig .tc := ⟨.hbm, 691, rfl⟩
abbrev main_v357 : Ref sig .tc := ⟨.hbm, 692, rfl⟩
abbrev main_cst_45 : Ref sig .tc := ⟨.hbm, 693, rfl⟩
abbrev main_v358 : Ref sig .tc := ⟨.hbm, 694, rfl⟩
abbrev main_v359 : Ref sig .tc := ⟨.hbm, 695, rfl⟩
abbrev main_v360 : Ref sig .tc := ⟨.hbm, 696, rfl⟩
abbrev main_v361 : Ref sig .tc := ⟨.hbm, 697, rfl⟩
abbrev main_v362 : Ref sig .tc := ⟨.hbm, 698, rfl⟩
abbrev main_v363 : Ref sig .tc := ⟨.hbm, 699, rfl⟩
abbrev main_v364 : Ref sig .tc := ⟨.hbm, 700, rfl⟩
abbrev main_v365 : Ref sig .tc := ⟨.hbm, 701, rfl⟩
abbrev main_v366 : Ref sig .tc := ⟨.hbm, 702, rfl⟩
abbrev main_v367 : Ref sig .tc := ⟨.hbm, 703, rfl⟩
abbrev main_v368 : Ref sig .tc := ⟨.hbm, 704, rfl⟩
abbrev main_v369 : Ref sig .tc := ⟨.hbm, 705, rfl⟩
abbrev main_v370 : Ref sig .tc := ⟨.hbm, 706, rfl⟩
abbrev main_v371 : Ref sig .tc := ⟨.hbm, 707, rfl⟩
abbrev main_v372 : Ref sig .tc := ⟨.hbm, 708, rfl⟩
abbrev main_v373 : Ref sig .tc := ⟨.hbm, 709, rfl⟩
abbrev main_v374 : Ref sig .tc := ⟨.hbm, 710, rfl⟩
abbrev main_v375 : Ref sig .tc := ⟨.hbm, 711, rfl⟩
abbrev main_cst_46 : Ref sig .tc := ⟨.hbm, 712, rfl⟩
abbrev main_v376 : Ref sig .tc := ⟨.hbm, 713, rfl⟩
abbrev main_v377 : Ref sig .tc := ⟨.hbm, 714, rfl⟩
abbrev main_v378 : Ref sig .tc := ⟨.hbm, 715, rfl⟩
abbrev main_v379 : Ref sig .tc := ⟨.hbm, 716, rfl⟩
abbrev main_v380 : Ref sig .tc := ⟨.hbm, 717, rfl⟩
abbrev main_v381 : Ref sig .tc := ⟨.hbm, 718, rfl⟩
abbrev main_v382 : Ref sig .tc := ⟨.hbm, 719, rfl⟩
abbrev main_cst_47 : Ref sig .tc := ⟨.hbm, 720, rfl⟩
abbrev main_v383 : Ref sig .tc := ⟨.hbm, 721, rfl⟩
abbrev main_cst_48 : Ref sig .tc := ⟨.hbm, 722, rfl⟩
abbrev main_v384 : Ref sig .tc := ⟨.hbm, 723, rfl⟩
abbrev main_v385 : Ref sig .tc := ⟨.hbm, 724, rfl⟩
abbrev main_v386 : Ref sig .tc := ⟨.hbm, 725, rfl⟩
abbrev main_v387 : Ref sig .tc := ⟨.hbm, 726, rfl⟩
abbrev main_v388 : Ref sig .tc := ⟨.hbm, 727, rfl⟩
abbrev main_v389 : Ref sig .tc := ⟨.hbm, 728, rfl⟩
abbrev main_cst_49 : Ref sig .tc := ⟨.hbm, 729, rfl⟩
abbrev main_v390 : Ref sig .tc := ⟨.hbm, 730, rfl⟩
abbrev main_v391 : Ref sig .tc := ⟨.hbm, 731, rfl⟩
abbrev main_v392 : Ref sig .tc := ⟨.hbm, 732, rfl⟩
abbrev main_v393 : Ref sig .tc := ⟨.hbm, 733, rfl⟩
abbrev main_v394 : Ref sig .tc := ⟨.hbm, 734, rfl⟩
abbrev main_v395 : Ref sig .tc := ⟨.hbm, 735, rfl⟩
abbrev main_v396 : Ref sig .tc := ⟨.hbm, 736, rfl⟩
abbrev main_v397 : Ref sig .tc := ⟨.hbm, 737, rfl⟩
abbrev main_v398 : Ref sig .tc := ⟨.hbm, 738, rfl⟩
abbrev main_v399 : Ref sig .tc := ⟨.hbm, 739, rfl⟩
abbrev main_v400 : Ref sig .tc := ⟨.hbm, 740, rfl⟩
abbrev main_v401 : Ref sig .tc := ⟨.hbm, 741, rfl⟩
abbrev main_v402 : Ref sig .tc := ⟨.hbm, 742, rfl⟩
abbrev main_v403 : Ref sig .tc := ⟨.hbm, 743, rfl⟩
abbrev main_v404 : Ref sig .tc := ⟨.hbm, 744, rfl⟩
abbrev main_v405 : Ref sig .tc := ⟨.hbm, 745, rfl⟩
abbrev main_v406 : Ref sig .tc := ⟨.hbm, 746, rfl⟩
abbrev main_call15_cst : Ref sig .tc := ⟨.hbm, 747, rfl⟩
abbrev main_call15_v0 : Ref sig .tc := ⟨.hbm, 748, rfl⟩
abbrev main_v407 : Ref sig .tc := ⟨.hbm, 749, rfl⟩
abbrev main_v408 : Ref sig .tc := ⟨.hbm, 750, rfl⟩
abbrev main_v409 : Ref sig .tc := ⟨.hbm, 751, rfl⟩
abbrev main_v410 : Ref sig .tc := ⟨.hbm, 752, rfl⟩
abbrev main_v411 : Ref sig .tc := ⟨.hbm, 753, rfl⟩
abbrev main_cst_50 : Ref sig .tc := ⟨.hbm, 754, rfl⟩
abbrev main_v412 : Ref sig .tc := ⟨.hbm, 755, rfl⟩
abbrev main_v413 : Ref sig .tc := ⟨.hbm, 756, rfl⟩
abbrev main_cst_51 : Ref sig .tc := ⟨.hbm, 757, rfl⟩
abbrev main_v414 : Ref sig .tc := ⟨.hbm, 758, rfl⟩
abbrev main_v415 : Ref sig .tc := ⟨.hbm, 759, rfl⟩
abbrev main_v416 : Ref sig .tc := ⟨.hbm, 760, rfl⟩
abbrev main_v417 : Ref sig .tc := ⟨.hbm, 761, rfl⟩
abbrev main_v418 : Ref sig .tc := ⟨.hbm, 762, rfl⟩
abbrev main_cst_52 : Ref sig .tc := ⟨.hbm, 763, rfl⟩
abbrev main_v419 : Ref sig .tc := ⟨.hbm, 764, rfl⟩
abbrev main_v420 : Ref sig .tc := ⟨.hbm, 765, rfl⟩
abbrev main_cst_53 : Ref sig .tc := ⟨.hbm, 766, rfl⟩
abbrev main_v421 : Ref sig .tc := ⟨.hbm, 767, rfl⟩
abbrev main_v422 : Ref sig .tc := ⟨.hbm, 768, rfl⟩
abbrev main_v423 : Ref sig .tc := ⟨.hbm, 769, rfl⟩
abbrev main_v424 : Ref sig .tc := ⟨.hbm, 770, rfl⟩
abbrev main_cst_54 : Ref sig .tc := ⟨.hbm, 771, rfl⟩
abbrev main_v425 : Ref sig .tc := ⟨.hbm, 772, rfl⟩
abbrev main_v426 : Ref sig .tc := ⟨.hbm, 773, rfl⟩
abbrev main_v427 : Ref sig .tc := ⟨.hbm, 774, rfl⟩
abbrev main_v428 : Ref sig .tc := ⟨.hbm, 775, rfl⟩
abbrev main_v429 : Ref sig .tc := ⟨.hbm, 776, rfl⟩
abbrev main_v430 : Ref sig .tc := ⟨.hbm, 777, rfl⟩
abbrev main_v431 : Ref sig .tc := ⟨.hbm, 778, rfl⟩
abbrev main_v432 : Ref sig .tc := ⟨.hbm, 779, rfl⟩
abbrev main_v433 : Ref sig .tc := ⟨.hbm, 780, rfl⟩
abbrev main_v434 : Ref sig .tc := ⟨.hbm, 781, rfl⟩
abbrev main_v435 : Ref sig .tc := ⟨.hbm, 782, rfl⟩
abbrev main_v436 : Ref sig .tc := ⟨.hbm, 783, rfl⟩
abbrev main_v437 : Ref sig .tc := ⟨.hbm, 784, rfl⟩
abbrev main_v438 : Ref sig .tc := ⟨.hbm, 785, rfl⟩
abbrev main_v439 : Ref sig .tc := ⟨.hbm, 786, rfl⟩
abbrev main_v440 : Ref sig .tc := ⟨.hbm, 787, rfl⟩
abbrev main_v441 : Ref sig .tc := ⟨.hbm, 788, rfl⟩
abbrev main_v442 : Ref sig .tc := ⟨.hbm, 789, rfl⟩
abbrev main_cst_55 : Ref sig .tc := ⟨.hbm, 790, rfl⟩
abbrev main_v443 : Ref sig .tc := ⟨.hbm, 791, rfl⟩
abbrev main_v444 : Ref sig .tc := ⟨.hbm, 792, rfl⟩
abbrev main_v445 : Ref sig .tc := ⟨.hbm, 793, rfl⟩
abbrev main_v446 : Ref sig .tc := ⟨.hbm, 794, rfl⟩
abbrev main_v447 : Ref sig .tc := ⟨.hbm, 795, rfl⟩
abbrev main_v448 : Ref sig .tc := ⟨.hbm, 796, rfl⟩
abbrev main_v449 : Ref sig .tc := ⟨.hbm, 797, rfl⟩
abbrev main_cst_56 : Ref sig .tc := ⟨.hbm, 798, rfl⟩
abbrev main_v450 : Ref sig .tc := ⟨.hbm, 799, rfl⟩
abbrev main_cst_57 : Ref sig .tc := ⟨.hbm, 800, rfl⟩
abbrev main_v451 : Ref sig .tc := ⟨.hbm, 801, rfl⟩
abbrev main_v452 : Ref sig .tc := ⟨.hbm, 802, rfl⟩
abbrev main_v453 : Ref sig .tc := ⟨.hbm, 803, rfl⟩
abbrev main_v454 : Ref sig .tc := ⟨.hbm, 804, rfl⟩
abbrev main_v455 : Ref sig .tc := ⟨.hbm, 805, rfl⟩
abbrev main_v456 : Ref sig .tc := ⟨.hbm, 806, rfl⟩
abbrev main_cst_58 : Ref sig .tc := ⟨.hbm, 807, rfl⟩
abbrev main_v457 : Ref sig .tc := ⟨.hbm, 808, rfl⟩
abbrev main_v458 : Ref sig .tc := ⟨.hbm, 809, rfl⟩
abbrev main_v459 : Ref sig .tc := ⟨.hbm, 810, rfl⟩
abbrev main_v460 : Ref sig .tc := ⟨.hbm, 811, rfl⟩
abbrev main_v461 : Ref sig .tc := ⟨.hbm, 812, rfl⟩
abbrev main_v462 : Ref sig .tc := ⟨.hbm, 813, rfl⟩
abbrev main_v463 : Ref sig .tc := ⟨.hbm, 814, rfl⟩
abbrev main_v464 : Ref sig .tc := ⟨.hbm, 815, rfl⟩
abbrev main_v465 : Ref sig .tc := ⟨.hbm, 816, rfl⟩
abbrev main_v466 : Ref sig .tc := ⟨.hbm, 817, rfl⟩
abbrev main_v467 : Ref sig .tc := ⟨.hbm, 818, rfl⟩
abbrev main_v468 : Ref sig .tc := ⟨.hbm, 819, rfl⟩
abbrev main_v469 : Ref sig .tc := ⟨.hbm, 820, rfl⟩
abbrev main_v470 : Ref sig .tc := ⟨.hbm, 821, rfl⟩
abbrev main_v471 : Ref sig .tc := ⟨.hbm, 822, rfl⟩
abbrev main_v472 : Ref sig .tc := ⟨.hbm, 823, rfl⟩
abbrev main_v473 : Ref sig .tc := ⟨.hbm, 824, rfl⟩
abbrev main_call16_cst : Ref sig .tc := ⟨.hbm, 825, rfl⟩
abbrev main_call16_v0 : Ref sig .tc := ⟨.hbm, 826, rfl⟩
abbrev main_v474 : Ref sig .tc := ⟨.hbm, 827, rfl⟩
abbrev main_v475 : Ref sig .tc := ⟨.hbm, 828, rfl⟩
abbrev main_v476 : Ref sig .tc := ⟨.hbm, 829, rfl⟩
abbrev main_v477 : Ref sig .tc := ⟨.hbm, 830, rfl⟩
abbrev main_v478 : Ref sig .tc := ⟨.hbm, 831, rfl⟩
abbrev main_cst_59 : Ref sig .tc := ⟨.hbm, 832, rfl⟩
abbrev main_v479 : Ref sig .tc := ⟨.hbm, 833, rfl⟩
abbrev main_v480 : Ref sig .tc := ⟨.hbm, 834, rfl⟩
abbrev main_cst_60 : Ref sig .tc := ⟨.hbm, 835, rfl⟩
abbrev main_v481 : Ref sig .tc := ⟨.hbm, 836, rfl⟩
abbrev main_v482 : Ref sig .tc := ⟨.hbm, 837, rfl⟩
abbrev main_v483 : Ref sig .tc := ⟨.hbm, 838, rfl⟩
abbrev main_v484 : Ref sig .tc := ⟨.hbm, 839, rfl⟩
abbrev main_v485 : Ref sig .tc := ⟨.hbm, 840, rfl⟩
abbrev main_cst_61 : Ref sig .tc := ⟨.hbm, 841, rfl⟩
abbrev main_v486 : Ref sig .tc := ⟨.hbm, 842, rfl⟩
abbrev main_v487 : Ref sig .tc := ⟨.hbm, 843, rfl⟩
abbrev main_cst_62 : Ref sig .tc := ⟨.hbm, 844, rfl⟩
abbrev main_v488 : Ref sig .tc := ⟨.hbm, 845, rfl⟩
abbrev main_v489 : Ref sig .tc := ⟨.hbm, 846, rfl⟩
abbrev main_v490 : Ref sig .tc := ⟨.hbm, 847, rfl⟩
abbrev main_v491 : Ref sig .tc := ⟨.hbm, 848, rfl⟩
abbrev main_cst_63 : Ref sig .tc := ⟨.hbm, 849, rfl⟩
abbrev main_v492 : Ref sig .tc := ⟨.hbm, 850, rfl⟩
abbrev main_v493 : Ref sig .tc := ⟨.hbm, 851, rfl⟩
abbrev main_v494 : Ref sig .tc := ⟨.hbm, 852, rfl⟩
abbrev main_v495 : Ref sig .tc := ⟨.hbm, 853, rfl⟩
abbrev main_v496 : Ref sig .tc := ⟨.hbm, 854, rfl⟩
abbrev main_v497 : Ref sig .tc := ⟨.hbm, 855, rfl⟩
abbrev main_v498 : Ref sig .tc := ⟨.hbm, 856, rfl⟩
abbrev main_v499 : Ref sig .tc := ⟨.hbm, 857, rfl⟩
abbrev main_v500 : Ref sig .tc := ⟨.hbm, 858, rfl⟩
abbrev main_v501 : Ref sig .tc := ⟨.hbm, 859, rfl⟩
abbrev main_v502 : Ref sig .tc := ⟨.hbm, 860, rfl⟩
abbrev main_v503 : Ref sig .tc := ⟨.hbm, 861, rfl⟩
abbrev main_v504 : Ref sig .tc := ⟨.hbm, 862, rfl⟩
abbrev main_v505 : Ref sig .tc := ⟨.hbm, 863, rfl⟩
abbrev main_v506 : Ref sig .tc := ⟨.hbm, 864, rfl⟩
abbrev main_v507 : Ref sig .tc := ⟨.hbm, 865, rfl⟩
abbrev main_v508 : Ref sig .tc := ⟨.hbm, 866, rfl⟩
abbrev main_v509 : Ref sig .tc := ⟨.hbm, 867, rfl⟩
abbrev main_cst_64 : Ref sig .tc := ⟨.hbm, 868, rfl⟩
abbrev main_v510 : Ref sig .tc := ⟨.hbm, 869, rfl⟩
abbrev main_v511 : Ref sig .tc := ⟨.hbm, 870, rfl⟩
abbrev main_v512 : Ref sig .tc := ⟨.hbm, 871, rfl⟩
abbrev main_v513 : Ref sig .tc := ⟨.hbm, 872, rfl⟩
abbrev main_v514 : Ref sig .tc := ⟨.hbm, 873, rfl⟩
abbrev main_v515 : Ref sig .tc := ⟨.hbm, 874, rfl⟩
abbrev main_v516 : Ref sig .tc := ⟨.hbm, 875, rfl⟩
abbrev main_cst_65 : Ref sig .tc := ⟨.hbm, 876, rfl⟩
abbrev main_v517 : Ref sig .tc := ⟨.hbm, 877, rfl⟩
abbrev main_cst_66 : Ref sig .tc := ⟨.hbm, 878, rfl⟩
abbrev main_v518 : Ref sig .tc := ⟨.hbm, 879, rfl⟩
abbrev main_v519 : Ref sig .tc := ⟨.hbm, 880, rfl⟩
abbrev main_v520 : Ref sig .tc := ⟨.hbm, 881, rfl⟩
abbrev main_v521 : Ref sig .tc := ⟨.hbm, 882, rfl⟩
abbrev main_v522 : Ref sig .tc := ⟨.hbm, 883, rfl⟩
abbrev main_v523 : Ref sig .tc := ⟨.hbm, 884, rfl⟩
abbrev main_cst_67 : Ref sig .tc := ⟨.hbm, 885, rfl⟩
abbrev main_v524 : Ref sig .tc := ⟨.hbm, 886, rfl⟩
abbrev main_v525 : Ref sig .tc := ⟨.hbm, 887, rfl⟩
abbrev main_v526 : Ref sig .tc := ⟨.hbm, 888, rfl⟩
abbrev main_v527 : Ref sig .tc := ⟨.hbm, 889, rfl⟩
abbrev main_v528 : Ref sig .tc := ⟨.hbm, 890, rfl⟩
abbrev main_v529 : Ref sig .tc := ⟨.hbm, 891, rfl⟩
abbrev main_v530 : Ref sig .tc := ⟨.hbm, 892, rfl⟩
abbrev main_v531 : Ref sig .tc := ⟨.hbm, 893, rfl⟩
abbrev main_v532 : Ref sig .tc := ⟨.hbm, 894, rfl⟩
abbrev main_v533 : Ref sig .tc := ⟨.hbm, 895, rfl⟩
abbrev main_v534 : Ref sig .tc := ⟨.hbm, 896, rfl⟩
abbrev main_v535 : Ref sig .tc := ⟨.hbm, 897, rfl⟩
abbrev main_v536 : Ref sig .tc := ⟨.hbm, 898, rfl⟩
abbrev main_v537 : Ref sig .tc := ⟨.hbm, 899, rfl⟩
abbrev main_v538 : Ref sig .tc := ⟨.hbm, 900, rfl⟩
abbrev main_v539 : Ref sig .tc := ⟨.hbm, 901, rfl⟩
abbrev main_v540 : Ref sig .tc := ⟨.hbm, 902, rfl⟩
abbrev main_call17_cst : Ref sig .tc := ⟨.hbm, 903, rfl⟩
abbrev main_call17_v0 : Ref sig .tc := ⟨.hbm, 904, rfl⟩
abbrev main_v541 : Ref sig .tc := ⟨.hbm, 905, rfl⟩
abbrev main_v542 : Ref sig .tc := ⟨.hbm, 906, rfl⟩
abbrev main_v543 : Ref sig .tc := ⟨.hbm, 907, rfl⟩
abbrev main_v544 : Ref sig .tc := ⟨.hbm, 908, rfl⟩
abbrev main_v545 : Ref sig .tc := ⟨.hbm, 909, rfl⟩
abbrev main_v546 : Ref sig .tc := ⟨.hbm, 910, rfl⟩

abbrev nD : Nat := 1
abbrev τ : Topo := Topo.v7x

variable {F : FTy → Type} [FloatOps F]
-- ==== Proof.Spec.lean ====
/- The mathematics of the encoder over the real numbers: one graph's layer normalisation, attention weights, node
   update and pair update, the six layers in turn, and the small facts that carry real arithmetic to the extended
   reals. -/
module

public import Idealize.ShloMosaic.Lib.Pointwise
public import Idealize.ShloMosaic.Lib.IdealHost

@[expose] public section

noncomputable section

open scoped BigOperators

namespace Cert.Proof.Spec

open Idealize.ShloMosaic

/-! ### Real arithmetic inside the extended reals -/

/-- A finite sum of reals is the same sum in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of reals by a nonzero real. -/
theorem div_coe_coe (a : ℝ) {b : ℝ} (hb : b ≠ 0) : Ideal.div (a : EReal) (b : EReal) = ((a / b : ℝ) : EReal) := by
  rw [Ideal.div_coe hb, ← EReal.coe_mul, mul_one_div]

/-- The root of a nonnegative real. -/
theorem sqrt_coe_nonneg {a : ℝ} (ha : 0 ≤ a) : Ideal.sqrt (a : EReal) = ((Real.sqrt a : ℝ) : EReal) := by
  rw [Ideal.sqrt_coe, if_neg (not_lt.mpr ha)]

/-- The larger of a real and zero. -/
theorem max_coe_zero (a : ℝ) : max (a : EReal) 0 = ((max a 0 : ℝ) : EReal) := by
  rw [← EReal.coe_zero]
  exact (EReal.coe_strictMono.monotone.map_max).symm

/-- A signed word as a float is the real it holds. -/
theorem sitofp_word {w : ℕ} (b : BitVec w) : FloatOps.sitofp (F := Ideal) .f32 b = ((b.toInt : ℝ) : EReal) := rfl

/-! ### The constants -/

/-- The layer normalisation's small constant, as the real its bit pattern denotes. -/
def eps : ℝ := (Ideal.ofBits .f32 0x3727C5AC#32).toReal

/-- 128. -/
theorem bits_128 : Ideal.ofBits .f32 0x43000000#32 = ((128 : ℝ) : EReal) := by
  simp [Ideal.ofBits, Ideal.ieee]; norm_num; rw [← EReal.coe_mul]; norm_num
/-- 4. -/
theorem bits_4 : Ideal.ofBits .f32 0x40800000#32 = ((4 : ℝ) : EReal) := by
  simp [Ideal.ofBits, Ideal.ieee]; norm_num; rw [← EReal.coe_mul]; norm_num
/-- 1/4. -/
theorem bits_quarter : Ideal.ofBits .f32 0x3E800000#32 = ((1 / 4 : ℝ) : EReal) := by
  simp [Ideal.ofBits, Ideal.ieee]; norm_num; rw [← EReal.coe_mul]; norm_num
/-- -10. -/
theorem bits_neg10 : Ideal.ofBits .f32 0xC1200000#32 = ((-10 : ℝ) : EReal) := by
  simp [Ideal.ofBits, Ideal.ieee]; norm_num; rw [← EReal.coe_mul]; norm_num
/-- Minus infinity. -/
theorem bits_bot : Ideal.ofBits .f32 0xFF800000#32 = ⊥ := by
  simp [Ideal.ofBits, Ideal.ieee]
/-- Infinity. -/
theorem bits_top : Ideal.ofBits .f32 0x7F800000#32 = ⊤ := by
  simp [Ideal.ofBits, Ideal.ieee]
/-- The layer normalisation's constant is a positive real. -/
theorem bits_eps_pos : ∃ r : ℝ, 0 < r ∧ Ideal.ofBits .f32 0x3727C5AC#32 = ((r : ℝ) : EReal) := by
  refine ⟨(2 ^ 23 + 2606508 : ℕ) * (2 : ℝ) ^ (-40 : ℤ), by positivity, ?_⟩
  simp [Ideal.ofBits, Ideal.ieee]
/-- The same under its name. -/
theorem bits_eps : Ideal.ofBits .f32 0x3727C5AC#32 = (eps : EReal) := by
  obtain ⟨r, _, h⟩ := bits_eps_pos
  rw [eps, h, EReal.toReal_coe]
/-- It is positive. -/
theorem eps_pos : 0 < eps := by
  obtain ⟨r, hr, h⟩ := bits_eps_pos
  rw [eps, h, EReal.toReal_coe]; exact hr

/-! ### One layer of one graph -/

/-- Node features of one graph. -/
abbrev Nodes := Fin 48 → Fin 128 → ℝ
/-- Pair features of one graph. -/
abbrev Pairs := Fin 48 → Fin 48 → Fin 128 → ℝ

/-- One layer's weights. -/
structure Weights where
  q : Fin 128 → Fin 128 → ℝ
  k : Fin 128 → Fin 128 → ℝ
  v : Fin 128 → Fin 128 → ℝ
  o : Fin 128 → Fin 128 → ℝ
  b : Fin 128 → Fin 8 → ℝ
  e : Fin 128 → Fin 128 → ℝ

/-- A node's mean over its features. -/
def mean (X : Nodes) (i : Fin 48) : ℝ := (∑ c, X i c) / 128
/-- A node's variance over its features. -/
def var (X : Nodes) (i : Fin 48) : ℝ := (∑ c, (X i c - mean X i) * (X i c - mean X i)) / 128
/-- Layer normalisation. -/
def ln (X : Nodes) (i : Fin 48) (c : Fin 128) : ℝ := (X i c - mean X i) / Real.sqrt (var X i + eps)
/-- A product with a weight matrix. -/
def lin (X : Nodes) (W : Fin 128 → Fin 128 → ℝ) (i : Fin 48) (c : Fin 128) : ℝ := ∑ k, X i k * W k c
/-- The attention logit of a node pair at a head: the scaled product of the head's sixteen lanes and the pair's bias. -/
def logit (X : Nodes) (E : Pairs) (w : Weights) (i : Fin 48) (h : Fin 8) (j : Fin 48) : ℝ :=
  (∑ c : Fin 128, if c.val / 16 = h.val then lin (ln X) w.q i c * lin (ln X) w.k j c else 0) / 4 + ∑ c, E i j c * w.b c h
/-- The head a feature belongs to. -/
def headOf (c : Fin 128) : Fin 8 := ⟨c.val / 16, by omega⟩
/-- The attention's result before its output matrix. -/
def att (X : Nodes) (E : Pairs) (w : Weights) (i : Fin 48) (c : Fin 128) : ℝ :=
  (∑ j, Real.exp (logit X E w i (headOf c) j) * lin (ln X) w.v j c) / ∑ j, Real.exp (logit X E w i (headOf c) j)
/-- The layer's new node features. -/
def newX (X : Nodes) (E : Pairs) (w : Weights) (i : Fin 48) (c : Fin 128) : ℝ := X i c + lin (att X E w) w.o i c
/-- The layer's new pair features, from the new node features `X`. -/
def newE (X : Nodes) (E : Pairs) (w : Weights) (i j : Fin 48) (c : Fin 128) : ℝ :=
  E i j c + ∑ k, max (X i k + X j k + E i j k) 0 * w.e k c

/-- A variance is not negative. -/
theorem var_nonneg (X : Nodes) (i : Fin 48) : 0 ≤ var X i :=
  div_nonneg (Finset.sum_nonneg fun _ _ => mul_self_nonneg _) (by norm_num)
/-- A standard deviation, the constant added, is positive. -/
theorem sd_pos (X : Nodes) (i : Fin 48) : 0 < Real.sqrt (var X i + eps) :=
  Real.sqrt_pos.mpr (add_pos_of_nonneg_of_pos (var_nonneg X i) eps_pos)
/-- A softmax's denominator is positive. -/
theorem den_pos (f : Fin 48 → ℝ) : 0 < ∑ j, Real.exp (f j) :=
  Finset.sum_pos (fun _ _ => Real.exp_pos _) Finset.univ_nonempty

/-- The node and pair features after the first `n` layers. -/
def layers (w : ℕ → Weights) (X : Nodes) (E : Pairs) : ℕ → Nodes × Pairs
  | 0 => (X, E)
  | n + 1 =>
    let p := layers w X E n
    (newX p.1 p.2 (w n), newE (newX p.1 p.2 (w n)) p.2 (w n))

/-! ### The embeddings -/

/-- What one graph brings: its atoms' categories, masses and places (which may be infinite), its bonds' categories and end atoms. -/
structure Graph where
  af : Fin 48 → Fin 9 → Fin 32
  mass : Fin 48 → EReal
  pos : Fin 48 → Fin 3 → EReal
  bf : Fin 192 → Fin 3 → Fin 8
  src : Fin 192 → Fin 48
  dst : Fin 192 → Fin 48

/-- The tables and radial bases of the embeddings (whose centres may be infinite), and the layers' weights. -/
structure Params where
  at_ : Fin 9 → Fin 32 → Fin 128 → ℝ
  mc : Fin 16 → EReal
  mW : Fin 16 → Fin 128 → ℝ
  bt : Fin 3 → Fin 8 → Fin 128 → ℝ
  dc : Fin 16 → EReal
  dW : Fin 16 → Fin 128 → ℝ
  w : Fin 6 → Weights

/-- A radial basis function: how near a number is to a centre, one at the centre and zero infinitely far away. -/
def near (r m : EReal) : ℝ := (Ideal.exp (((-10 : ℝ) : EReal) * ((r - m) * (r - m)))).toReal

/-- A radial basis function is real whatever its arguments: a square is never negative, so the exponential never grows. -/
theorem near_coe (r m : EReal) : Ideal.exp (((-10 : ℝ) : EReal) * ((r - m) * (r - m))) = (near r m : EReal) := by
  unfold near
  generalize r - m = z
  induction z using EReal.rec with
  | bot => rw [EReal.bot_mul_bot, EReal.coe_mul_top_of_neg (by norm_num), Ideal.exp_bot, EReal.toReal_zero, EReal.coe_zero]
  | coe z => rw [← EReal.coe_mul, ← EReal.coe_mul, Ideal.exp_coe, EReal.toReal_coe]
  | top => rw [EReal.top_mul_top, EReal.coe_mul_top_of_neg (by norm_num), Ideal.exp_bot, EReal.toReal_zero, EReal.coe_zero]

/-- Radial basis features of a number, through a matrix. -/
def rbf (r : EReal) (ce : Fin 16 → EReal) (W : Fin 16 → Fin 128 → ℝ) (c : Fin 128) : ℝ := ∑ k, near r (ce k) * W k c
/-- A sum of nine table rows. -/
def atoms (P : Params) (G : Graph) (i : Fin 48) (c : Fin 128) : ℝ := ∑ f, P.at_ f (G.af i f) c
/-- The initial node features. -/
def initX (P : Params) (G : Graph) : Nodes := fun i c => atoms P G i c + rbf (G.mass i) P.mc P.mW c
/-- The distance of two atoms. -/
def dist (G : Graph) (i j : Fin 48) : EReal :=
  Ideal.sqrt ((∑ d, (G.pos i d - G.pos j d) * (G.pos i d - G.pos j d)) + Ideal.ofBits .f32 0x3089705F#32)
/-- A bond's embedding. -/
def bond (P : Params) (G : Graph) (e : Fin 192) (c : Fin 128) : ℝ := ∑ f, P.bt f (G.bf e f) c
/-- The initial pair features: the distance's radial basis, and the bonds between the two atoms. -/
def initE (P : Params) (G : Graph) : Pairs := fun i j c =>
  rbf (dist G i j) P.dc P.dW c + ∑ e, if G.src e = i ∧ G.dst e = j then bond P G e c else 0

/-- The features after the first `n` layers, from the embeddings. -/
def feats (P : Params) (G : Graph) (n : ℕ) : Nodes × Pairs :=
  layers (fun l => P.w (Fin.ofNat 6 l)) (initX P G) (initE P G) n

/-- The encoder's result for one graph. -/
def encode (P : Params) (G : Graph) : Nodes := (feats P G 6).1

/-! ### One-hot rows -/

/-- The float of a one-bit comparison of two small words. -/
theorem hot_word {a k : ℕ} (ha : a < 2 ^ 32) (hk : k < 2 ^ 32) :
    FloatOps.sitofp (F := Ideal) .f32 (BitVec.setWidth 32 (IntOp.cmpi .eq (BitVec.ofNat 32 a) (BitVec.ofNat 32 k)))
      = ((if a = k then 1 else 0 : ℝ) : EReal) := by
  by_cases h : a = k
  · subst h
    simp [sitofp_word, IntOp.cmpi]
  · have hne : BitVec.ofNat 32 a ≠ BitVec.ofNat 32 k := fun he => h (by
      have := congrArg BitVec.toNat he
      rwa [BitVec.toNat_ofNat, BitVec.toNat_ofNat, Nat.mod_eq_of_lt ha, Nat.mod_eq_of_lt hk] at this)
    have hb : (BitVec.ofNat 32 a == BitVec.ofNat 32 k) = false := beq_eq_false_iff_ne.mpr hne
    simp [sitofp_word, IntOp.cmpi, h, hb]

/-- A one-hot row times a table is the table's row. -/
theorem hot_sum {n : ℕ} (hn : n ≤ 2 ^ 32) (a : Fin n) (f : Fin n → ℝ) :
    (∑ k : Fin n, FloatOps.sitofp (F := Ideal) .f32
        (BitVec.setWidth 32 (IntOp.cmpi .eq (BitVec.ofNat 32 a.val) (BitVec.ofNat 32 k.val))) * (f k : EReal))
      = (f a : EReal) := by
  rw [Finset.sum_eq_single a]
  · rw [hot_word (by omega) (by omega), if_pos rfl, ← EReal.coe_mul, one_mul]
  · intro k _ hk
    rw [hot_word (by omega) (by omega), if_neg (fun h => hk (Fin.ext h.symm)), ← EReal.coe_mul, zero_mul, EReal.coe_zero]
  · simp

end Cert.Proof.Spec

end
-- ==== Proof.Args.lean ====
/- The argument arrays' entries as integers in range and real numbers: what the precondition gives, in the form that the
   kernel's and the reference's evaluation use. -/
module

public import proofs.«01_k».proof.Proof.Spec

@[expose] public section

noncomputable section

namespace Cert.Proof.Spec

open Idealize.ShloMosaic

/-- The eighteen argument arrays hold the sixteen graphs `G` and the parameters `P`. -/
structure Args (a0 : Vec Ideal ⟨2, ![768, 9]⟩ .i32) (a1 : Vec Ideal ⟨1, ![768]⟩ .f32) (a2 : Vec Ideal ⟨2, ![3072, 3]⟩ .i32)
    (a3 : Vec Ideal ⟨2, ![768, 3]⟩ .f32) (a4 : Vec Ideal ⟨2, ![2, 3072]⟩ .i32) (a5 : Vec Ideal ⟨1, ![768]⟩ .i32)
    (a6 : Vec Ideal ⟨3, ![9, 32, 128]⟩ .f32) (a7 : Vec Ideal ⟨1, ![16]⟩ .f32) (a8 : Vec Ideal ⟨2, ![16, 128]⟩ .f32)
    (a9 : Vec Ideal ⟨3, ![3, 8, 128]⟩ .f32) (a10 : Vec Ideal ⟨1, ![16]⟩ .f32) (a11 : Vec Ideal ⟨2, ![16, 128]⟩ .f32)
    (a12 a13 a14 a15 : Vec Ideal ⟨3, ![6, 128, 128]⟩ .f32) (a16 : Vec Ideal ⟨3, ![6, 128, 8]⟩ .f32)
    (a17 : Vec Ideal ⟨3, ![6, 128, 128]⟩ .f32) (P : Params) (G : Fin 16 → Graph) : Prop where
  af : ∀ (b : Fin 16) (i : Fin 48) (f : Fin 9) (r : Fin 768), r.val = 48 * b.val + i.val →
    a0 (ix2 r f) = BitVec.ofNat 32 ((G b).af i f).val
  mass : ∀ (b : Fin 16) (i : Fin 48) (r : Fin 768), r.val = 48 * b.val + i.val → a1 (ix1 r) = (G b).mass i
  bf : ∀ (b : Fin 16) (e : Fin 192) (f : Fin 3) (r : Fin 3072), r.val = 192 * b.val + e.val →
    a2 (ix2 r f) = BitVec.ofNat 32 ((G b).bf e f).val
  pos : ∀ (b : Fin 16) (i : Fin 48) (d : Fin 3) (r : Fin 768), r.val = 48 * b.val + i.val → a3 (ix2 r d) = (G b).pos i d
  src : ∀ (b : Fin 16) (e : Fin 192) (r : Fin 3072), r.val = 192 * b.val + e.val →
    a4 (ix2 0 r) = BitVec.ofNat 32 (48 * b.val + ((G b).src e).val)
  dst : ∀ (b : Fin 16) (e : Fin 192) (r : Fin 3072), r.val = 192 * b.val + e.val →
    a4 (ix2 1 r) = BitVec.ofNat 32 (48 * b.val + ((G b).dst e).val)
  graph : ∀ (b : Fin 16) (i : Fin 48) (r : Fin 768), r.val = 48 * b.val + i.val → a5 (ix1 r) = BitVec.ofNat 32 b.val
  at_ : ∀ f k c, a6 (ix3 f k c) = (P.at_ f k c : EReal)
  mc : ∀ k, a7 (ix1 k) = P.mc k
  mW : ∀ k c, a8 (ix2 k c) = (P.mW k c : EReal)
  bt : ∀ f k c, a9 (ix3 f k c) = (P.bt f k c : EReal)
  dc : ∀ k, a10 (ix1 k) = P.dc k
  dW : ∀ k c, a11 (ix2 k c) = (P.dW k c : EReal)
  q : ∀ l k c, a12 (ix3 l k c) = ((P.w l).q k c : EReal)
  k : ∀ l k c, a13 (ix3 l k c) = ((P.w l).k k c : EReal)
  v : ∀ l k c, a14 (ix3 l k c) = ((P.w l).v k c : EReal)
  o : ∀ l k c, a15 (ix3 l k c) = ((P.w l).o k c : EReal)
  b : ∀ l k c, a16 (ix3 l k c) = ((P.w l).b k c : EReal)
  e : ∀ l k c, a17 (ix3 l k c) = ((P.w l).e k c : EReal)

/-- Graph `2 t + g`: the one that block `t` holds in its half `g`. -/
def gid (t : Fin 8) (g : Fin 2) : Fin 16 := ⟨2 * t.val + g.val, by omega⟩

end Cert.Proof.Spec

end
-- ==== Proof.KernelLayer.lean ====
/- One layer of the kernel on one graph: the arrays it computes from real node and pair features are the real layer's
   features. -/
module

public import proofs.«01_k».proof.Proof.Gen.KernelIdeal.Skeleton
public import proofs.«01_k».proof.Proof.Spec
public import Idealize.ShloMosaic.Lib.Pointwise

@[expose] public section

set_option maxRecDepth 16384

noncomputable section

open scoped BigOperators

namespace Cert.Proof.KernelLayer

open Idealize.ShloMosaic Cert.KernelIdeal Cert.KernelIdeal.Gen Cert.Proof.Spec

/-- Coordinates of a head mask's entry. -/
theorem pay_mask_bit : ∀ (h : Fin 8) (c : Fin 128),
    k0_pay12 (ix2 h c) = if c.val / 16 = h.val then 1#1 else 0#1 := by
  decide +kernel

/-- The head mask: one where the feature belongs to the head, zero elsewhere. -/
theorem pay_mask (h : Fin 8) (c : Fin 128) :
    k0_pay13 (F := Ideal) k0_pay12 (ix2 h c) = ((if c.val / 16 = h.val then 1 else 0 : ℝ) : EReal) := by
  pointwise [k0_pay13]
  rw [pay_mask_bit]
  split <;> simp [sitofp_word]

/-- The head mask scaled by one over the root of the head's width. -/
theorem pay_maskS (h : Fin 8) (c : Fin 128) :
    k0_pay14 (F := Ideal) k0_pay12 (ix2 h c) = ((if c.val / 16 = h.val then 1 / 4 else 0 : ℝ) : EReal) := by
  pointwise [k0_pay14]
  rw [pay_mask, bits_quarter, ← EReal.coe_mul]
  split <;> simp

/-- The kernel's layer normalisation. -/
theorem pay_ln {x : FVec Ideal S48x128 .f32} {X : Nodes} (hx : ∀ i c, x (ix2 i c) = (X i c : EReal)) (i : Fin 48) (c : Fin 128) :
    k0_pay29 x (ix2 i c) = (ln X i c : EReal) := by
  pointwise [k0_pay29]
  have hm : Ideal.div (∑ c, x (ix2 i c)) (Ideal.ofBits FTy.f32 1124073472#32) = ((mean X i : ℝ) : EReal) := by
    simp only [hx, bits_128, ← coe_sum]
    exact div_coe_coe _ (by norm_num)
  simp only [hm]
  simp only [hx, bits_128, bits_eps, ← coe_sum, ← EReal.coe_mul, ← EReal.coe_sub]
  rw [div_coe_coe _ (by norm_num : (128 : ℝ) ≠ 0), ← EReal.coe_add]
  change Ideal.div _ (Ideal.sqrt ((var X i + eps : ℝ) : EReal)) = _
  rw [sqrt_coe_nonneg (add_pos_of_nonneg_of_pos (var_nonneg X i) eps_pos).le]
  exact div_coe_coe _ (sd_pos X i).ne'

/-- The kernel's value projection. -/
theorem pay_v {x : FVec Ideal S48x128 .f32} {W : FVec Ideal S128x128 .f32} {X : Nodes} {V : Fin 128 → Fin 128 → ℝ}
    (hx : ∀ i c, x (ix2 i c) = (X i c : EReal)) (hw : ∀ i c, W (ix2 i c) = (V i c : EReal)) (i : Fin 48) (c : Fin 128) :
    k0_pay31 x W (ix2 i c) = (lin (ln X) V i c : EReal) := by
  pointwise [k0_pay31]
  simp only [pay_ln hx, hw, ← EReal.coe_mul, ← coe_sum]
  rfl

/-- The kernel's scaled head products, row by row of (node, head). -/
theorem pay_qk {s : FVec Ideal S8x128 .f32} {x : FVec Ideal S48x128 .f32} {W1 W2 : FVec Ideal S128x128 .f32} {X : Nodes}
    {V1 V2 : Fin 128 → Fin 128 → ℝ} (hs : ∀ h c, s (ix2 h c) = ((if c.val / 16 = h.val then 1 / 4 else 0 : ℝ) : EReal))
    (hx : ∀ i c, x (ix2 i c) = (X i c : EReal)) (h1 : ∀ i c, W1 (ix2 i c) = (V1 i c : EReal))
    (h2 : ∀ i c, W2 (ix2 i c) = (V2 i c : EReal)) (i : Fin 48) (h : Fin 8) (j : Fin 48) (hr : i.val * 8 + h.val < 384) :
    k0_pay33 s x W1 W2 (ix2 ⟨i.val * 8 + h.val, hr⟩ j)
      = (((∑ c : Fin 128, if c.val / 16 = h.val then lin (ln X) V1 i c * lin (ln X) V2 j c else 0) / 4 : ℝ) : EReal) := by
  pointwise [k0_pay33]
  simp only [pay_ln hx, hs, h1, h2, ← EReal.coe_mul, ← coe_sum]
  congr 1
  rw [Finset.sum_div]
  refine Finset.sum_congr rfl fun c _ => ?_
  by_cases hc : c.val / 16 = h.val
  · simp only [if_pos hc, lin]; ring
  · simp only [if_neg hc]; ring

/-- The kernel's pair bias. -/
theorem pay_eb {e : FVec Ideal S2304x128 .f32} {W : FVec Ideal S128x8 .f32} {E : Pairs} {V : Fin 128 → Fin 8 → ℝ}
    (he : ∀ (i j : Fin 48) c (hr : i.val * 48 + j.val < 2304), e (ix2 ⟨i.val * 48 + j.val, hr⟩ c) = (E i j c : EReal))
    (hw : ∀ i c, W (ix2 i c) = (V i c : EReal)) (i : Fin 48) (h : Fin 8) (j : Fin 48) :
    k0_pay35 e W (ix3 i j h) = ((∑ c, E i j c * V c h : ℝ) : EReal) := by
  pointwise [k0_pay35]
  simp only [he, hw, ← EReal.coe_mul, ← coe_sum]

/-- A sum over heads against the head mask keeps the feature's own head. -/
theorem sum_mask (f : Fin 8 → ℝ) (c : Fin 128) :
    (∑ h : Fin 8, f h * (if c.val / 16 = h.val then 1 else 0 : ℝ)) = f (headOf c) := by
  rw [Finset.sum_eq_single (headOf c)]
  · simp [headOf]
  · intro h _ hne
    rw [if_neg (fun hc => hne (Fin.ext hc.symm)), mul_zero]
  · simp

/-- One layer of the kernel: the new node features. -/
def kX (m s : FVec Ideal S8x128 .f32) (wq wk wv wo : FVec Ideal S128x128 .f32) (wb : FVec Ideal S128x8 .f32)
    (x : FVec Ideal S48x128 .f32) (e : FVec Ideal S2304x128 .f32) : FVec Ideal S48x128 .f32 :=
  k0_pay37 m x wo (k0_pay31 x wv) (k0_pay33 s x wq wk) (k0_pay35 e wb)

/-- One layer of the kernel: the new pair features. -/
def kE (m s : FVec Ideal S8x128 .f32) (wq wk wv wo : FVec Ideal S128x128 .f32) (wb : FVec Ideal S128x8 .f32)
    (we : FVec Ideal S128x128 .f32) (x : FVec Ideal S48x128 .f32) (e : FVec Ideal S2304x128 .f32) : FVec Ideal S2304x128 .f32 :=
  k0_pay41 e we (k0_pay38 m x e wo (k0_pay31 x wv) (k0_pay33 s x wq wk) (k0_pay35 e wb)) (Scalar.ofBits .f32 0x00000000#32)

/-- An array of node features holds the real features `X`. -/
def HoldsX (x : FVec Ideal S48x128 .f32) (X : Nodes) : Prop := ∀ i c, x (ix2 i c) = (X i c : EReal)
/-- An array of pair features, its rows the node pairs in row-major order, holds the real features `E`. -/
def HoldsE (e : FVec Ideal S2304x128 .f32) (E : Pairs) : Prop :=
  ∀ (i j : Fin 48) c (hr : i.val * 48 + j.val < 2304), e (ix2 ⟨i.val * 48 + j.val, hr⟩ c) = (E i j c : EReal)
/-- A weight matrix holds the real matrix `V`. -/
def HoldsW {n : ℕ} (W : FVec Ideal ⟨2, ![128, n]⟩ .f32) (V : Fin 128 → Fin n → ℝ) : Prop := ∀ i c, W (ix2 i c) = (V i c : EReal)
/-- The two head masks hold what they should. -/
def HoldsM (m s : FVec Ideal S8x128 .f32) : Prop :=
  (∀ h c, m (ix2 h c) = ((if c.val / 16 = h.val then 1 else 0 : ℝ) : EReal))
    ∧ ∀ h c, s (ix2 h c) = ((if c.val / 16 = h.val then 1 / 4 else 0 : ℝ) : EReal)

/-- The kernel's new node features are the real layer's. -/
theorem kX_holds {m s : FVec Ideal S8x128 .f32} {wq wk wv wo : FVec Ideal S128x128 .f32} {wb : FVec Ideal S128x8 .f32}
    {x : FVec Ideal S48x128 .f32} {e : FVec Ideal S2304x128 .f32} {X : Nodes} {E : Pairs} {w : Weights}
    (hm : HoldsM m s) (hq : HoldsW wq w.q) (hk : HoldsW wk w.k) (hv : HoldsW wv w.v) (ho : HoldsW wo w.o) (hb : HoldsW wb w.b)
    (hx : HoldsX x X) (he : HoldsE e E) : HoldsX (kX m s wq wk wv wo wb x e) (newX X E w) := by
  intro i c
  have hl : ∀ (h : Fin 8) (j : Fin 48) (hr : i.val * 8 + h.val < 384),
      k0_pay33 s x wq wk (ix2 ⟨i.val * 8 + h.val, hr⟩ j) + k0_pay35 e wb (ix3 i j h) = (logit X E w i h j : EReal) := by
    intro h j hr
    rw [pay_qk hm.2 hx hq hk, pay_eb he hb, ← EReal.coe_add]
    rfl
  have ha : ∀ c : Fin 128, Ideal.div
      (∑ h : Fin 8, (∑ j : Fin 48, Ideal.exp (k0_pay33 s x wq wk (ix2 ⟨i.val * 8 + h.val, by omega⟩ j) + k0_pay35 e wb (ix3 i j h))
        * k0_pay31 x wv (ix2 j c)) * m (ix2 h c))
      (∑ h : Fin 8, (∑ j : Fin 48, Ideal.exp (k0_pay33 s x wq wk (ix2 ⟨i.val * 8 + h.val, by omega⟩ j) + k0_pay35 e wb (ix3 i j h)))
        * m (ix2 h c)) = (att X E w i c : EReal) := by
    intro c
    simp only [hl, hm.1 _ _, pay_v hx hv, Ideal.exp_coe, ← EReal.coe_mul, ← coe_sum]
    rw [sum_mask (fun h => ∑ j, Real.exp (logit X E w i h j) * lin (ln X) w.v j c),
      sum_mask (fun h => ∑ j, Real.exp (logit X E w i h j))]
    exact div_coe_coe _ (den_pos _).ne'
  unfold kX
  pointwise [k0_pay37]
  simp only [ha, hx i c, ho _ _, ← EReal.coe_mul, ← coe_sum, ← EReal.coe_add]
  rfl

/-- The kernel's new pair features are the real layer's. -/
theorem kE_holds {m s : FVec Ideal S8x128 .f32} {wq wk wv wo we : FVec Ideal S128x128 .f32} {wb : FVec Ideal S128x8 .f32}
    {x : FVec Ideal S48x128 .f32} {e : FVec Ideal S2304x128 .f32} {X : Nodes} {E : Pairs} {w : Weights}
    (hm : HoldsM m s) (hq : HoldsW wq w.q) (hk : HoldsW wk w.k) (hv : HoldsW wv w.v) (ho : HoldsW wo w.o) (hb : HoldsW wb w.b)
    (hw : HoldsW we w.e) (hx : HoldsX x X) (he : HoldsE e E) :
    HoldsE (kE m s wq wk wv wo wb we x e) (newE (newX X E w) E w) := by
  intro i j c hr
  have hX : ∀ i c, k0_pay37 m x wo (k0_pay31 x wv) (k0_pay33 s x wq wk) (k0_pay35 e wb) (ix2 i c) = (newX X E w i c : EReal) :=
    kX_holds hm hq hk hv ho hb hx he
  unfold kE
  pointwise [k0_pay41, k0_pay38]
  simp only [hX, he i j _ _, hw _ _, ← EReal.coe_add, max_coe_zero, ← EReal.coe_mul, ← coe_sum]
  rfl

end Cert.Proof.KernelLayer

end
-- ==== Proof.KernelEmbed.lean ====
/- The kernel's embeddings: from a block of two graphs it computes the real initial node and pair features of each. -/
module

public import proofs.«01_k».proof.Proof.KernelLayer
public import proofs.«01_k».proof.Proof.Gen.KernelIdeal.Frame
public import Idealize.ShloMosaic.Lib.Pipeline.ValueKit

@[expose] public section

set_option maxRecDepth 16384

noncomputable section

open scoped BigOperators

namespace Cert.Proof.KernelEmbed

open Idealize.ShloMosaic Cert.KernelIdeal Cert.KernelIdeal.Gen Cert.Proof.Spec Cert.Proof.KernelLayer

/-- The blocks one grid point reads hold two graphs and the model's parameters. -/
structure Holds (x0 : Vec Ideal S1x96x9 .i32) (x1 : Vec Ideal S1x96x1 .f32) (x2 : Vec Ideal S1x96x3 .f32)
    (x3 : Vec Ideal S1x2x192x3 .i32) (x4 : Vec Ideal S1x2x192x1 .i32) (x5 : Vec Ideal S9x32x128 .f32) (x6 : Vec Ideal S1x16 .f32)
    (x7 : Vec Ideal S16x128 .f32) (x8 : Vec Ideal S3x8x128 .f32) (x9 : Vec Ideal S1x16 .f32) (x10 : Vec Ideal S16x128 .f32)
    (x11 x12 x13 x14 : Vec Ideal S6x128x128 .f32) (x15 : Vec Ideal S6x128x8 .f32) (x16 : Vec Ideal S6x128x128 .f32)
    (P : Params) (G : Fin 2 → Graph) : Prop where
  af : ∀ g i f (r : Fin 96), r.val = 48 * g.val + i.val → x0 (ix3 0 r f) = BitVec.ofNat 32 ((G g).af i f).val
  mass : ∀ g i (r : Fin 96), r.val = 48 * g.val + i.val → x1 (ix3 0 r 0) = (G g).mass i
  pos : ∀ g i d (r : Fin 96), r.val = 48 * g.val + i.val → x2 (ix3 0 r d) = (G g).pos i d
  bf : ∀ g e f, x3 (ix4 0 g e f) = BitVec.ofNat 32 ((G g).bf e f).val
  pidx : ∀ g e, x4 (ix4 0 g e 0) = BitVec.ofNat 32 (((G g).src e).val * 48 + ((G g).dst e).val)
  at_ : ∀ f a c, x5 (ix3 f a c) = (P.at_ f a c : EReal)
  mc : ∀ k, x6 (ix2 0 k) = P.mc k
  mW : ∀ k c, x7 (ix2 k c) = (P.mW k c : EReal)
  bt : ∀ f a c, x8 (ix3 f a c) = (P.bt f a c : EReal)
  dc : ∀ k, x9 (ix2 0 k) = P.dc k
  dW : ∀ k c, x10 (ix2 k c) = (P.dW k c : EReal)
  q : ∀ l k c, x11 (ix3 l k c) = ((P.w l).q k c : EReal)
  k : ∀ l k c, x12 (ix3 l k c) = ((P.w l).k k c : EReal)
  v : ∀ l k c, x13 (ix3 l k c) = ((P.w l).v k c : EReal)
  o : ∀ l k c, x14 (ix3 l k c) = ((P.w l).o k c : EReal)
  b : ∀ l k c, x15 (ix3 l k c) = ((P.w l).b k c : EReal)
  e : ∀ l k c, x16 (ix3 l k c) = ((P.w l).e k c : EReal)

variable {x0 : Vec Ideal S1x96x9 .i32} {x1 : Vec Ideal S1x96x1 .f32} {x2 : Vec Ideal S1x96x3 .f32}
  {x3 : Vec Ideal S1x2x192x3 .i32} {x4 : Vec Ideal S1x2x192x1 .i32} {x5 : Vec Ideal S9x32x128 .f32} {x6 : Vec Ideal S1x16 .f32}
  {x7 : Vec Ideal S16x128 .f32} {x8 : Vec Ideal S3x8x128 .f32} {x9 : Vec Ideal S1x16 .f32} {x10 : Vec Ideal S16x128 .f32}
  {x11 x12 x13 x14 : Vec Ideal S6x128x128 .f32} {x15 : Vec Ideal S6x128x8 .f32} {x16 : Vec Ideal S6x128x128 .f32}
  {P : Params} {G : Fin 2 → Graph}

/-- The radial basis features as the kernel and the reference compute them. -/
theorem rbf_coe (r : EReal) (ce : Fin 16 → EReal) (W : Fin 16 → Fin 128 → ℝ) (c : Fin 128) :
    (∑ k, Ideal.exp (Ideal.ofBits .f32 0xC1200000#32 * ((r - ce k) * (r - ce k))) * (W k c : EReal))
      = ((rbf r ce W c : ℝ) : EReal) := by
  simp only [bits_neg10, near_coe, ← EReal.coe_mul, ← coe_sum]
  rfl

/-- The block's embedded atoms: row `48 g + i` is atom `i` of graph `g`. -/
theorem pay_atoms (H : Holds x0 x1 x2 x3 x4 x5 x6 x7 x8 x9 x10 x11 x12 x13 x14 x15 x16 P G) (g : Fin 2) (i : Fin 48) (c : Fin 128)
    (r : Fin 96) (hr : r.val = 48 * g.val + i.val) :
    k0_pay149 x0 x1 x2 x3 x4 x5 x6 x7 x8 x9 x10 x11 x12 x13 x14 x15 x16 (ix2 r c) = (initX P (G g) i c : EReal) := by
  pointwise [k0_pay149, k0_pay148, k0_pay147, k0_pay7, k0_pay6, k0_pay5, k0_pay4, k0_pay3, k0_pay2, r0_0, r0_1, r0_2, r0_3, r0_4,
    r0_5, r0_6, r0_7, r0_8, r0_9, r0_10, r0_11, r0_12]
  simp only [H.af g i _ r hr, H.mass g i r hr, H.at_, H.mc, H.mW]
  simp only [hot_sum (by norm_num : 32 ≤ 2 ^ 32) _ fun a => P.at_ _ a c, rbf_coe, ← EReal.coe_add]
  congr 1
  simp only [initX, atoms, Fin.sum_univ_succ, Fin.sum_univ_zero]
  simp
  ring

/-- A bond's pair of end atoms as one number, and back. -/
theorem pair_iff (a b i j : Fin 48) : a.val * 48 + b.val = i.val * 48 + j.val ↔ a = i ∧ b = j := by
  constructor
  · intro h
    exact ⟨Fin.ext (by omega), Fin.ext (by omega)⟩
  · rintro ⟨rfl, rfl⟩; rfl

/-- A bond's embedding as the kernel computes it: three one-hot rows times the three tables. -/
theorem bond_coe (P : Params) (K : Graph) (e : Fin 192) (c : Fin 128) {b0 b1 b2 : BitVec 32}
    (h0 : b0 = BitVec.ofNat 32 (K.bf e 0).val) (h1 : b1 = BitVec.ofNat 32 (K.bf e 1).val) (h2 : b2 = BitVec.ofNat 32 (K.bf e 2).val) :
    (∑ k : Fin 8, FloatOps.sitofp (F := Ideal) .f32 (BitVec.setWidth 32 (IntOp.cmpi .eq b0 (BitVec.ofNat 32 k.val))) * (P.bt 0 k c : EReal))
      + (∑ k : Fin 8, FloatOps.sitofp (F := Ideal) .f32 (BitVec.setWidth 32 (IntOp.cmpi .eq b1 (BitVec.ofNat 32 k.val))) * (P.bt 1 k c : EReal))
      + (∑ k : Fin 8, FloatOps.sitofp (F := Ideal) .f32 (BitVec.setWidth 32 (IntOp.cmpi .eq b2 (BitVec.ofNat 32 k.val))) * (P.bt 2 k c : EReal))
      = (bond P K e c : EReal) := by
  subst h0 h1 h2
  rw [hot_sum (by norm_num) _ fun k => P.bt 0 k c, hot_sum (by norm_num) _ fun k => P.bt 1 k c,
    hot_sum (by norm_num) _ fun k => P.bt 2 k c, ← EReal.coe_add, ← EReal.coe_add]
  congr 1
  simp only [bond, Fin.sum_univ_three]

/-- The bonds of a graph gathered at one pair of atoms, by one-hot rows of pair numbers. -/
theorem scatter_coe (P : Params) (K : Graph) (i j : Fin 48) (c : Fin 128) {n : ℕ} (hn : n = i.val * 48 + j.val) :
    (∑ e : Fin 192, FloatOps.sitofp (F := Ideal) .f32 (BitVec.setWidth 32 (IntOp.cmpi .eq
        (BitVec.ofNat 32 ((K.src e).val * 48 + (K.dst e).val)) (BitVec.ofNat 32 n))) * (bond P K e c : EReal))
      = ((∑ e, if K.src e = i ∧ K.dst e = j then bond P K e c else 0 : ℝ) : EReal) := by
  rw [coe_sum]
  refine Finset.sum_congr rfl fun e _ => ?_
  rw [hot_word (by omega) (by omega), ← EReal.coe_mul, hn]
  simp only [pair_iff, ite_mul, one_mul, zero_mul]

/-- The block's embedded pairs: row `2304 g + 48 i + j` is the pair `(i, j)` of graph `g`. -/
theorem pay_pairs (H : Holds x0 x1 x2 x3 x4 x5 x6 x7 x8 x9 x10 x11 x12 x13 x14 x15 x16 P G) (g : Fin 2) (i j : Fin 48) (c : Fin 128)
    (r : Fin 4608) (hr : r.val = 2304 * g.val + (i.val * 48 + j.val)) :
    k0_pay150 x0 x1 x2 x3 x4 x5 x6 x7 x8 x9 x10 x11 x12 x13 x14 x15 x16 (ix2 r c) = (initE P (G g) i j c : EReal) := by
  pointwise [k0_pay150, k0_pay11, k0_pay10, k0_pay9, k0_pay8, r0_10, r0_11, r0_12, r0_13, r0_14, r0_15, r0_16, r0_17, r0_18, r0_19]
  have hi : ∀ d (a : Fin 96), a.val = r.val / 48 → x2 (ix3 0 a d) = (G g).pos i d :=
    fun d a ha => H.pos g i d a (by omega)
  have hj : ∀ d (a : Fin 96), a.val = r.val / 2304 * 48 + r.val % 48 → x2 (ix3 0 a d) = (G g).pos j d :=
    fun d a ha => H.pos g j d a (by omega)
  simp only [hi _ ⟨r.val / 48, _⟩ rfl, hj _ ⟨r.val / 2304 * 48 + r.val % 48, _⟩ rfl, H.dc, H.dW, H.bt, H.pidx]
  have hd : Ideal.sqrt ((∑ d : Fin 3, ((G g).pos i d - (G g).pos j d) * ((G g).pos i d - (G g).pos j d))
      + Ideal.ofBits .f32 0x3089705F#32) = dist (G g) i j := rfl
  rw [hd, rbf_coe]
  have hb : ∀ e f (a : Fin 2) (b : Fin 192), a.val = g.val → b.val = e.val → x3 (ix4 0 a b f) = BitVec.ofNat 32 ((G g).bf e f).val := by
    intro e f a b ha hb
    rw [Fin.ext ha, Fin.ext hb]
    exact H.bf g e f
  have hg : g.val = 0 ∨ g.val = 1 := by omega
  rcases hg with hg | hg
  · obtain rfl : g = 0 := Fin.ext hg
    rw [dif_pos (by omega)]
    refine (Ideal.add_congr rfl (Finset.sum_congr rfl fun e _ => Ideal.mul_congr rfl
      (bond_coe P (G 0) e c (hb e 0 _ _ (by simp) (by simp)) (hb e 1 _ _ (by simp) (by simp))
        (hb e 2 _ _ (by simp) (by simp))))).trans ?_
    rw [scatter_coe P (G 0) i j c (by omega), ← EReal.coe_add]
    rfl
  · obtain rfl : g = 1 := Fin.ext hg
    rw [dif_neg (by omega)]
    refine (Ideal.add_congr rfl (Finset.sum_congr rfl fun e _ => Ideal.mul_congr rfl
      (bond_coe P (G 1) e c (hb e 0 _ _ (by simp) rfl) (hb e 1 _ _ (by simp) rfl)
        (hb e 2 _ _ (by simp) rfl)))).trans ?_
    rw [scatter_coe P (G 1) i j c (by omega), ← EReal.coe_add]
    rfl

end Cert.Proof.KernelEmbed

end
-- ==== Proof.KernelStack.lean ====
/- The kernel's six layers on the two graphs of a block, and the block it stores: the encoder's result for both. -/
module

public import proofs.«01_k».proof.Proof.KernelEmbed

@[expose] public section

set_option maxRecDepth 16384

noncomputable section

open scoped BigOperators

namespace Cert.Proof.KernelStack

open Idealize.ShloMosaic Cert.KernelIdeal Cert.KernelIdeal.Gen Cert.Proof.Spec Cert.Proof.KernelLayer Cert.Proof.KernelEmbed

/-- Layer `l`'s square weight matrix, as the kernel loads it. -/
abbrev wmat (l : ℕ) (inb : ∀ a, (![l, 0, 0] : Fin 3 → ℕ) a + S1x128x128.size a ≤ S6x128x128.size a) (W : Vec Ideal S6x128x128 .f32) :
    FVec Ideal S128x128 .f32 :=
  shapeCast S128x128 (View.ld W (Rect.unit (s := S6x128x128) ![l, 0, 0] S1x128x128.size inb)) shapeCasts_S1x128x128_S128x128

/-- Layer `l`'s bias matrix, as the kernel loads it. -/
abbrev bmat (l : ℕ) (inb : ∀ a, (![l, 0, 0] : Fin 3 → ℕ) a + S1x128x8.size a ≤ S6x128x8.size a) (W : Vec Ideal S6x128x8 .f32) :
    FVec Ideal S128x8 .f32 :=
  shapeCast S128x8 (View.ld W (Rect.unit (s := S6x128x8) ![l, 0, 0] S1x128x8.size inb)) shapeCasts_S1x128x8_S128x8

/-- One layer's matrix without its leading axis. -/
theorem drop_lead (X : FVec Ideal S1x128x128 .f32) (i c : Fin 128) :
    shapeCast S128x128 X shapeCasts_S1x128x128_S128x128 (ix2 i c) = X (ix3 0 i c) := by
  pointwise

/-- The same of the bias matrix. -/
theorem drop_lead' (X : FVec Ideal S1x128x8 .f32) (i : Fin 128) (c : Fin 8) :
    shapeCast S128x8 X shapeCasts_S1x128x8_S128x8 (ix2 i c) = X (ix3 0 i c) := by
  pointwise

/-- A layer's matrix read from the stack of six holds that layer's weights. -/
theorem wmat_holds (l : ℕ) (hl : l < 6) (inb) {W : Vec Ideal S6x128x128 .f32} {V : Fin 6 → Fin 128 → Fin 128 → ℝ}
    (h : ∀ l k c, W (ix3 l k c) = (V l k c : EReal)) : HoldsW (wmat l inb W) (V ⟨l, hl⟩) := by
  intro i c
  refine (drop_lead _ i c).trans (Eq.trans (congrArg W ?_) (h ⟨l, hl⟩ i c))
  funext a
  refine Fin.ext ?_
  fin_cases a <;> simp [Rect.unit]

/-- The same of the bias matrix. -/
theorem bmat_holds (l : ℕ) (hl : l < 6) (inb) {W : Vec Ideal S6x128x8 .f32} {V : Fin 6 → Fin 128 → Fin 8 → ℝ}
    (h : ∀ l k c, W (ix3 l k c) = (V l k c : EReal)) : HoldsW (bmat l inb W) (V ⟨l, hl⟩) := by
  intro i c
  refine (drop_lead' _ i c).trans (Eq.trans (congrArg W ?_) (h ⟨l, hl⟩ i c))
  funext a
  refine Fin.ext ?_
  fin_cases a <;> simp [Rect.unit]

/-- The features of both graphs of a block after `n` layers. -/
def At (P : Params) (G : Fin 2 → Graph) (n : ℕ) (xa xb : FVec Ideal S48x128 .f32) (ea eb : FVec Ideal S2304x128 .f32) : Prop :=
  (HoldsX xa (feats P (G 0) n).1 ∧ HoldsX xb (feats P (G 1) n).1) ∧ HoldsE ea (feats P (G 0) n).2 ∧ HoldsE eb (feats P (G 1) n).2

variable {x0 : Vec Ideal S1x96x9 .i32} {x1 : Vec Ideal S1x96x1 .f32} {x2 : Vec Ideal S1x96x3 .f32}
  {x3 : Vec Ideal S1x2x192x3 .i32} {x4 : Vec Ideal S1x2x192x1 .i32} {x5 : Vec Ideal S9x32x128 .f32} {x6 : Vec Ideal S1x16 .f32}
  {x7 : Vec Ideal S16x128 .f32} {x8 : Vec Ideal S3x8x128 .f32} {x9 : Vec Ideal S1x16 .f32} {x10 : Vec Ideal S16x128 .f32}
  {x11 x12 x13 x14 : Vec Ideal S6x128x128 .f32} {x15 : Vec Ideal S6x128x8 .f32} {x16 : Vec Ideal S6x128x128 .f32}
  {P : Params} {G : Fin 2 → Graph}

/-- The kernel's two head masks. -/
abbrev msk : FVec Ideal S8x128 .f32 := k0_pay13 (F := Ideal) k0_pay12
/-- The scaled head mask. -/
abbrev mskS : FVec Ideal S8x128 .f32 := k0_pay14 (F := Ideal) k0_pay12

/-- Both masks hold what they should. -/
theorem masks : HoldsM msk mskS := ⟨pay_mask, pay_maskS⟩

/-- One layer on both graphs of a block. -/
theorem step (l : ℕ) (hl : l < 6) (inb inb') {xa xb : FVec Ideal S48x128 .f32} {ea eb : FVec Ideal S2304x128 .f32}
    (H : Holds x0 x1 x2 x3 x4 x5 x6 x7 x8 x9 x10 x11 x12 x13 x14 x15 x16 P G) (h : At P G l xa xb ea eb) :
    At P G (l + 1)
      (kX msk mskS (wmat l inb x11) (wmat l inb x12) (wmat l inb x13) (wmat l inb x14) (bmat l inb' x15) xa ea)
      (kX msk mskS (wmat l inb x11) (wmat l inb x12) (wmat l inb x13) (wmat l inb x14) (bmat l inb' x15) xb eb)
      (kE msk mskS (wmat l inb x11) (wmat l inb x12) (wmat l inb x13) (wmat l inb x14) (bmat l inb' x15) (wmat l inb x16) xa ea)
      (kE msk mskS (wmat l inb x11) (wmat l inb x12) (wmat l inb x13) (wmat l inb x14) (bmat l inb' x15) (wmat l inb x16) xb eb) := by
  have hf : Fin.ofNat 6 l = ⟨l, hl⟩ := Fin.ext (Nat.mod_eq_of_lt hl)
  have hq := wmat_holds l hl inb (V := fun l => (P.w l).q) H.q
  have hk := wmat_holds l hl inb (V := fun l => (P.w l).k) H.k
  have hv := wmat_holds l hl inb (V := fun l => (P.w l).v) H.v
  have ho := wmat_holds l hl inb (V := fun l => (P.w l).o) H.o
  have hb := bmat_holds l hl inb' (V := fun l => (P.w l).b) H.b
  have he := wmat_holds l hl inb (V := fun l => (P.w l).e) H.e
  simp only [← hf] at hq hk hv ho hb he
  exact ⟨⟨kX_holds masks hq hk hv ho hb h.1.1 h.2.1, kX_holds masks hq hk hv ho hb h.1.2 h.2.2⟩,
    kE_holds masks hq hk hv ho hb he h.1.1 h.2.1, kE_holds masks hq hk hv ho hb he h.1.2 h.2.2⟩

/-- Before the layers: the two graphs' rows of the embeddings. -/
theorem at0 (H : Holds x0 x1 x2 x3 x4 x5 x6 x7 x8 x9 x10 x11 x12 x13 x14 x15 x16 P G) :
    At P G 0 (k0_pay154 x0 x1 x2 x3 x4 x5 x6 x7 x8 x9 x10 x11 x12 x13 x14 x15 x16)
      (k0_pay155 x0 x1 x2 x3 x4 x5 x6 x7 x8 x9 x10 x11 x12 x13 x14 x15 x16)
      (k0_pay156 x0 x1 x2 x3 x4 x5 x6 x7 x8 x9 x10 x11 x12 x13 x14 x15 x16)
      (k0_pay157 x0 x1 x2 x3 x4 x5 x6 x7 x8 x9 x10 x11 x12 x13 x14 x15 x16) := by
  refine ⟨⟨fun i c => ?_, fun i c => ?_⟩, fun i j c hr => ?_, fun i j c hr => ?_⟩
  · pointwise [k0_pay154, k0_pay15]
    exact pay_atoms H 0 i c _ (by simp)
  · pointwise [k0_pay155, k0_pay16]
    exact pay_atoms H 1 i c _ (by simp)
  · pointwise [k0_pay156, k0_pay17]
    exact pay_pairs H 0 i j c _ (by simp)
  · pointwise [k0_pay157, k0_pay18]
    exact pay_pairs H 1 i j c _ (by simp)

/-- After 1 layer. -/
theorem at1 (H : Holds x0 x1 x2 x3 x4 x5 x6 x7 x8 x9 x10 x11 x12 x13 x14 x15 x16 P G) :
    At P G 1 (k0_pay172 x0 x1 x2 x3 x4 x5 x6 x7 x8 x9 x10 x11 x12 x13 x14 x15 x16)
      (k0_pay173 x0 x1 x2 x3 x4 x5 x6 x7 x8 x9 x10 x11 x12 x13 x14 x15 x16)
      (k0_pay174 x0 x1 x2 x3 x4 x5 x6 x7 x8 x9 x10 x11 x12 x13 x14 x15 x16)
      (k0_pay175 x0 x1 x2 x3 x4 x5 x6 x7 x8 x9 x10 x11 x12 x13 x14 x15 x16) := by
  have h := step 0 (by decide) inb_S6x128x128_S1x128x128_0_0_0 inb_S6x128x8_S1x128x8_0_0_0 H (at0 H)
  exact h

/-- After 2 layers. -/
theorem at2 (H : Holds x0 x1 x2 x3 x4 x5 x6 x7 x8 x9 x10 x11 x12 x13 x14 x15 x16 P G) :
    At P G 2 (k0_pay190 x0 x1 x2 x3 x4 x5 x6 x7 x8 x9 x10 x11 x12 x13 x14 x15 x16)
      (k0_pay191 x0 x1 x2 x3 x4 x5 x6 x7 x8 x9 x10 x11 x12 x13 x14 x15 x16)
      (k0_pay192 x0 x1 x2 x3 x4 x5 x6 x7 x8 x9 x10 x11 x12 x13 x14 x15 x16)
      (k0_pay193 x0 x1 x2 x3 x4 x5 x6 x7 x8 x9 x10 x11 x12 x13 x14 x15 x16) := by
  have h := step 1 (by decide) inb_S6x128x128_S1x128x128_1_0_0 inb_S6x128x8_S1x128x8_1_0_0 H (at1 H)
  exact h

/-- After 3 layers. -/
theorem at3 (H : Holds x0 x1 x2 x3 x4 x5 x6 x7 x8 x9 x10 x11 x12 x13 x14 x15 x16 P G) :
    At P G 3 (k0_pay208 x0 x1 x2 x3 x4 x5 x6 x7 x8 x9 x10 x11 x12 x13 x14 x15 x16)
      (k0_pay209 x0 x1 x2 x3 x4 x5 x6 x7 x8 x9 x10 x11 x12 x13 x14 x15 x16)
      (k0_pay210 x0 x1 x2 x3 x4 x5 x6 x7 x8 x9 x10 x11 x12 x13 x14 x15 x16)
      (k0_pay211 x0 x1 x2 x3 x4 x5 x6 x7 x8 x9 x10 x11 x12 x13 x14 x15 x16) := by
  have h := step 2 (by decide) inb_S6x128x128_S1x128x128_2_0_0 inb_S6x128x8_S1x128x8_2_0_0 H (at2 H)
  exact h

/-- After 4 layers. -/
theorem at4 (H : Holds x0 x1 x2 x3 x4 x5 x6 x7 x8 x9 x10 x11 x12 x13 x14 x15 x16 P G) :
    At P G 4 (k0_pay226 x0 x1 x2 x3 x4 x5 x6 x7 x8 x9 x10 x11 x12 x13 x14 x15 x16)
      (k0_pay227 x0 x1 x2 x3 x4 x5 x6 x7 x8 x9 x10 x11 x12 x13 x14 x15 x16)
      (k0_pay228 x0 x1 x2 x3 x4 x5 x6 x7 x8 x9 x10 x11 x12 x13 x14 x15 x16)
      (k0_pay229 x0 x1 x2 x3 x4 x5 x6 x7 x8 x9 x10 x11 x12 x13 x14 x15 x16) := by
  have h := step 3 (by decide) inb_S6x128x128_S1x128x128_3_0_0 inb_S6x128x8_S1x128x8_3_0_0 H (at3 H)
  exact h

/-- Six layers' node features of two graphs, one graph's rows after the other's. -/
def rows (xa xb : FVec Ideal S48x128 .f32) : FVec Ideal S96x128 .f32 :=
  concatenate S96x128 0 [⟨S48x128, xa⟩, ⟨S48x128, xb⟩] concatenates_S48x128_S48x128_S96x128_d0

/-- What a store of the whole block leaves. -/
theorem canon_whole (p : S1x96x128.Idx → Elt Ideal .f32) :
    View.canon [(⟨r0_32, p⟩ : View.Piece (Elt Ideal) S1x96x128 .f32)] = p :=
  View.canon_cons_unit_lit inb_S1x96x128_S1x96x128_0_0_0 p [] (by decide)

/-- The block a grid point stores holds the encoder's result for its two graphs. -/
theorem out_holds (H : Holds x0 x1 x2 x3 x4 x5 x6 x7 x8 x9 x10 x11 x12 x13 x14 x15 x16 P G) (g : Fin 2) (i : Fin 48) (c : Fin 128)
    (r : Fin 96) (hr : r.val = 48 * g.val + i.val) :
    out0_17 x0 x1 x2 x3 x4 x5 x6 x7 x8 x9 x10 x11 x12 x13 x14 x15 x16 (ix3 0 r c) = (encode P (G g) i c : EReal) := by
  obtain ⟨xa, xb, ea, eb, h, ho⟩ : ∃ xa xb ea eb, At P G 6 xa xb ea eb
      ∧ out0_17 x0 x1 x2 x3 x4 x5 x6 x7 x8 x9 x10 x11 x12 x13 x14 x15 x16 = View.canon [⟨r0_32, k0_pay1 (rows xa xb)⟩] := by
    have h := step 5 (by decide) inb_S6x128x128_S1x128x128_5_0_0 inb_S6x128x8_S1x128x8_5_0_0 H
      (step 4 (by decide) inb_S6x128x128_S1x128x128_4_0_0 inb_S6x128x8_S1x128x8_4_0_0 H (at4 H))
    exact ⟨_, _, _, _, h, rfl⟩
  rw [ho, canon_whole]
  pointwise [k0_pay1, rows]
  have hg : g.val = 0 ∨ g.val = 1 := by omega
  rcases hg with hg | hg
  · obtain rfl : g = 0 := Fin.ext hg
    rw [dif_pos (by omega)]
    exact (congrArg (fun k => xa (ix2 k c)) (Fin.ext (by simpa using hr))).trans (h.1.1 i c)
  · obtain rfl : g = 1 := Fin.ext hg
    rw [dif_neg (by omega)]
    exact (congrArg (fun k => xb (ix2 k c)) (Fin.ext (by simp; omega))).trans (h.1.2 i c)

end Cert.Proof.KernelStack

end
-- ==== Proof.KernelBlocks.lean ====
/- What the kernel's windows hold at a grid point: two graphs' rows of the arguments, and the parameters whole. -/
module

public import proofs.«01_k».proof.Proof.Args
public import proofs.«01_k».proof.Proof.KernelStack
public import proofs.«01_k».proof.Proof.Gen.KernelIdeal.Value

@[expose] public section

set_option maxRecDepth 16384

noncomputable section

namespace Cert.Proof.KernelBlocks

open Idealize.ShloMosaic Idealize.ShloMosaic.TcCoe Cert.KernelIdeal Cert.KernelIdeal.Gen Cert.Proof.Spec

variable (m : (ℓ : Loc nD τ sig) → Buf (Elt Ideal) ℓ)

/-- Where each window stands at grid point `t`. -/
theorem idx : ∀ t : Fin cfg0.N, win0_0.index t = ![t.val, 0, 0] ∧ win0_1.index t = ![t.val, 0, 0] ∧ win0_2.index t = ![t.val, 0, 0]
    ∧ win0_3.index t = ![t.val, 0, 0, 0] ∧ win0_4.index t = ![t.val, 0, 0, 0] ∧ win0_5.index t = ![0, 0, 0]
    ∧ win0_6.index t = ![0, 0] ∧ win0_7.index t = ![0, 0] ∧ win0_8.index t = ![0, 0, 0] ∧ win0_9.index t = ![0, 0]
    ∧ win0_10.index t = ![0, 0] ∧ win0_11.index t = ![0, 0, 0] ∧ win0_12.index t = ![0, 0, 0] ∧ win0_13.index t = ![0, 0, 0]
    ∧ win0_14.index t = ![0, 0, 0] ∧ win0_15.index t = ![0, 0, 0] ∧ win0_16.index t = ![0, 0, 0] ∧ win0_17.index t = ![t.val, 0, 0] :=
  (by decide +kernel : ∀ t : Fin grid0.N, _)

/-- The atoms' features as the region finds them. -/
theorem entry0 (c : Dev nD) : V m c main_v0 = shapeCast S8x96x9 (m (c, main_arg0)) shapeCasts_S768x9_S8x96x9 := by
  simp only [V, hostOps0, hostOps0_1, hostOps0_2, hostOps0_3, hostOps0_4, List.flatten_cons, List.flatten_nil, List.append_nil,
    List.cons_append, List.nil_append]
  after_results
  rfl

/-- The masses as the region finds them. -/
theorem entry1 (c : Dev nD) : V m c main_v1 = shapeCast S8x96x1 (m (c, main_arg1)) shapeCasts_S768_S8x96x1 := by
  simp only [V, hostOps0, hostOps0_1, hostOps0_2, hostOps0_3, hostOps0_4, List.flatten_cons, List.flatten_nil, List.append_nil,
    List.cons_append, List.nil_append]
  after_results
  rfl

/-- The bonds' features as the region finds them. -/
theorem entry2 (c : Dev nD) : V m c main_v2 = shapeCast S8x2x192x3 (m (c, main_arg2)) shapeCasts_S3072x3_S8x2x192x3 := by
  simp only [V, hostOps0, hostOps0_1, hostOps0_2, hostOps0_3, hostOps0_4, List.flatten_cons, List.flatten_nil, List.append_nil,
    List.cons_append, List.nil_append]
  after_results
  rfl

/-- The positions as the region finds them. -/
theorem entry3 (c : Dev nD) : V m c main_v3 = shapeCast S8x96x3 (m (c, main_arg3)) shapeCasts_S768x3_S8x96x3 := by
  simp only [V, hostOps0, hostOps0_1, hostOps0_2, hostOps0_3, hostOps0_4, List.flatten_cons, List.flatten_nil, List.append_nil,
    List.cons_append, List.nil_append]
  after_results
  rfl

/-- The masses' centres as the region finds them. -/
theorem entry14 (c : Dev nD) : V m c main_v14 = shapeCast S1x16 (m (c, main_arg7)) shapeCasts_S16_S1x16 := by
  simp only [V, hostOps0, hostOps0_1, hostOps0_2, hostOps0_3, hostOps0_4, List.flatten_cons, List.flatten_nil, List.append_nil,
    List.cons_append, List.nil_append]
  after_results
  rfl

/-- The distances' centres as the region finds them. -/
theorem entry15 (c : Dev nD) : V m c main_v15 = shapeCast S1x16 (m (c, main_arg10)) shapeCasts_S16_S1x16 := by
  simp only [V, hostOps0, hostOps0_1, hostOps0_2, hostOps0_3, hostOps0_4, List.flatten_cons, List.flatten_nil, List.append_nil,
    List.cons_append, List.nil_append]
  after_results
  rfl

/-- The remainder by 48 as the host code takes it: the truncated one, moved up where its sign is not the divisor's. -/
def rem48 (x : S3072.Idx → BitVec 32) : S3072.Idx → BitVec 32 :=
  let d : S_.Idx → BitVec 32 := select (cmpi .eq (constantI S_ 32 48#32) (constantI S_ 32 0#32)) (constantI S_ 32 1#32) (constantI S_ 32 48#32)
  let r := Host.remsi x (broadcastInDim S3072 ![] bcast_S_S3072 d)
  let z := broadcastInDim S3072 ![] bcast_S_S3072 (constantI S_ 32 0#32)
  select (andi (cmpi .ne (cmpi .slt r z) (broadcastInDim S3072 ![] bcast_S_S3072 (cmpi .slt d (constantI S_ 32 0#32)))) (cmpi .ne r z))
    (addi r (broadcastInDim S3072 ![] bcast_S_S3072 d)) r

/-- The bonds' pair indices as the region finds them: 48 times the source's place in its graph, plus the target's. -/
theorem entry13 (c : Dev nD) : V m c main_v13 = shapeCast S8x2x192x1 (addi (muli
      (rem48 (shapeCast S3072 (extractStridedSlice S1x3072 ![0, 0] (m (c, main_arg4)) slices_S2x3072_S1x3072_0_0) shapeCasts_S1x3072_S3072))
      (broadcastInDim S3072 ![] bcast_S_S3072 (constantI S_ 32 48#32)))
      (rem48 (shapeCast S3072 (extractStridedSlice S1x3072 ![1, 0] (m (c, main_arg4)) slices_S2x3072_S1x3072_1_0) shapeCasts_S1x3072_S3072)))
      shapeCasts_S3072_S8x2x192x1 := by
  simp only [V, hostOps0, hostOps0_1, hostOps0_2, hostOps0_3, hostOps0_4, List.flatten_cons, List.flatten_nil, List.append_nil,
    List.cons_append, List.nil_append]
  after_results
  rfl

/-- The remainder of a node's number. -/
theorem rem48_at (x : S3072.Idx → BitVec 32) (j : Fin 3072) (n : ℕ) (hn : n < 768) (h : x (ix1 j) = BitVec.ofNat 32 n) :
    rem48 x (ix1 j) = BitVec.ofNat 32 (n % 48) := by
  pointwise [rem48]
  rw [h]
  obtain ⟨n, rfl⟩ : ∃ k : Fin 768, k.val = n := ⟨⟨n, hn⟩, rfl⟩
  clear hn h x
  revert n
  decide +kernel

/-- The atoms' categories, in rows of two graphs. -/
theorem cast0 (X : S768x9.Idx → BitVec 32) (t : Fin 8) (r : Fin 96) (f : Fin 9) (R : Fin 768) (h : R.val = 96 * t.val + r.val) :
    shapeCast S8x96x9 X shapeCasts_S768x9_S8x96x9 (ix3 t r f) = X (ix2 R f) := by
  pointwise
  blk_ext []

/-- The positions, in rows of two graphs. -/
theorem cast3 (X : S768x3.Idx → EReal) (t : Fin 8) (r : Fin 96) (f : Fin 3) (R : Fin 768) (h : R.val = 96 * t.val + r.val) :
    shapeCast S8x96x3 X shapeCasts_S768x3_S8x96x3 (ix3 t r f) = X (ix2 R f) := by
  pointwise
  blk_ext []

/-- The bonds' categories, by pair of graphs and graph. -/
theorem cast2 (X : S3072x3.Idx → BitVec 32) (t : Fin 8) (g : Fin 2) (a : Fin 192) (f : Fin 3) (R : Fin 3072)
    (h : R.val = 192 * (2 * t.val + g.val) + a.val) :
    shapeCast S8x2x192x3 X shapeCasts_S3072x3_S8x2x192x3 (ix4 t g a f) = X (ix2 R f) := by
  pointwise
  blk_ext []

/-- The bonds' pair numbers, by pair of graphs and graph. -/
theorem cast13 (X : S3072.Idx → BitVec 32) (t : Fin 8) (g : Fin 2) (a : Fin 192) (R : Fin 3072)
    (h : R.val = 192 * (2 * t.val + g.val) + a.val) :
    shapeCast S8x2x192x1 X shapeCasts_S3072_S8x2x192x1 (ix4 t g a 0) = X (ix1 R) := by
  pointwise
  blk_ext []

/-- An atom's features in its block. -/
theorem read0 (c : Dev nD) (t : Fin 8) (r : Fin 96) (f : Fin 9) (R : Fin 768) (h : R.val = 96 * t.val + r.val) :
    (iblk m c 0 t : S1x96x9.Idx → BitVec 32) (ix3 0 r f) = m (c, main_arg0) (ix2 R f) := by
  have e : ((cfg0.win 0).blk t).view.emb (ix3 0 r f) = ix3 t r f := by blk_ext [idx t]
  show V m c main_v0 (((cfg0.win 0).blk t).view.emb (ix3 0 r f)) = _
  rw [e, entry0]
  exact cast0 _ t r f R h

/-- An atom's mass in its block. -/
theorem read1 (c : Dev nD) (t : Fin 8) (r : Fin 96) (R : Fin 768) (h : R.val = 96 * t.val + r.val) :
    (iblk m c 1 t : S1x96x1.Idx → EReal) (ix3 0 r 0) = m (c, main_arg1) (ix1 R) := by
  have e : ((cfg0.win 1).blk t).view.emb (ix3 0 r 0) = ix3 t r 0 := by blk_ext [idx t]
  show V m c main_v1 (((cfg0.win 1).blk t).view.emb (ix3 0 r 0)) = _
  rw [e, entry1]
  pointwise
  blk_ext []

/-- An atom's position in its block. -/
theorem read2 (c : Dev nD) (t : Fin 8) (r : Fin 96) (d : Fin 3) (R : Fin 768) (h : R.val = 96 * t.val + r.val) :
    (iblk m c 2 t : S1x96x3.Idx → EReal) (ix3 0 r d) = m (c, main_arg3) (ix2 R d) := by
  have e : ((cfg0.win 2).blk t).view.emb (ix3 0 r d) = ix3 t r d := by blk_ext [idx t]
  show V m c main_v3 (((cfg0.win 2).blk t).view.emb (ix3 0 r d)) = _
  rw [e, entry3]
  exact cast3 _ t r d R h

/-- A bond's features in its block. -/
theorem read3 (c : Dev nD) (t : Fin 8) (g : Fin 2) (a : Fin 192) (f : Fin 3) (R : Fin 3072) (h : R.val = 192 * (2 * t.val + g.val) + a.val) :
    (iblk m c 3 t : S1x2x192x3.Idx → BitVec 32) (ix4 0 g a f) = m (c, main_arg2) (ix2 R f) := by
  have e : ((cfg0.win 3).blk t).view.emb (ix4 0 g a f) = ix4 t g a f := by blk_ext [idx t]
  show V m c main_v2 (((cfg0.win 3).blk t).view.emb (ix4 0 g a f)) = _
  rw [e, entry2]
  exact cast2 _ t g a f R h

/-- The masses' centres in a block. -/
theorem read6 (c : Dev nD) (t : Fin 8) (k : Fin 16) :
    (iblk m c 6 t : S1x16.Idx → EReal) (ix2 0 k) = m (c, main_arg7) (ix1 k) := by
  have e : ((cfg0.win 6).blk t).view.emb (ix2 0 k) = ix2 0 k := by blk_ext [idx t]
  show V m c main_v14 (((cfg0.win 6).blk t).view.emb (ix2 0 k)) = _
  rw [e, entry14]
  pointwise
  blk_ext []

/-- The distances' centres in a block. -/
theorem read9 (c : Dev nD) (t : Fin 8) (k : Fin 16) :
    (iblk m c 9 t : S1x16.Idx → EReal) (ix2 0 k) = m (c, main_arg10) (ix1 k) := by
  have e : ((cfg0.win 9).blk t).view.emb (ix2 0 k) = ix2 0 k := by blk_ext [idx t]
  show V m c main_v15 (((cfg0.win 9).blk t).view.emb (ix2 0 k)) = _
  rw [e, entry15]
  pointwise
  blk_ext []

/-! The parameters are whole in every block. -/

/-- Window 5 holds the whole of its array, the atoms' tables. -/
theorem read5 (c : Dev nD) (t : Fin 8) (y : S9x32x128.Idx) : (iblk m c 5 t : S9x32x128.Idx → EReal) y = m (c, main_arg6) y := by
  blk_ext! [iblk, V, idx t]

/-- Window 7 holds the whole of its array, the masses' matrix. -/
theorem read7 (c : Dev nD) (t : Fin 8) (y : S16x128.Idx) : (iblk m c 7 t : S16x128.Idx → EReal) y = m (c, main_arg8) y := by
  blk_ext! [iblk, V, idx t]

/-- Window 8 holds the whole of its array, the bonds' tables. -/
theorem read8 (c : Dev nD) (t : Fin 8) (y : S3x8x128.Idx) : (iblk m c 8 t : S3x8x128.Idx → EReal) y = m (c, main_arg9) y := by
  blk_ext! [iblk, V, idx t]

/-- Window 10 holds the whole of its array, the distances' matrix. -/
theorem read10 (c : Dev nD) (t : Fin 8) (y : S16x128.Idx) : (iblk m c 10 t : S16x128.Idx → EReal) y = m (c, main_arg11) y := by
  blk_ext! [iblk, V, idx t]

/-- Window 11 holds the whole of its array, the query weights. -/
theorem read11 (c : Dev nD) (t : Fin 8) (y : S6x128x128.Idx) : (iblk m c 11 t : S6x128x128.Idx → EReal) y = m (c, main_arg12) y := by
  blk_ext! [iblk, V, idx t]

/-- Window 12 holds the whole of its array, the key weights. -/
theorem read12 (c : Dev nD) (t : Fin 8) (y : S6x128x128.Idx) : (iblk m c 12 t : S6x128x128.Idx → EReal) y = m (c, main_arg13) y := by
  blk_ext! [iblk, V, idx t]

/-- Window 13 holds the whole of its array, the value weights. -/
theorem read13 (c : Dev nD) (t : Fin 8) (y : S6x128x128.Idx) : (iblk m c 13 t : S6x128x128.Idx → EReal) y = m (c, main_arg14) y := by
  blk_ext! [iblk, V, idx t]

/-- Window 14 holds the whole of its array, the output weights. -/
theorem read14 (c : Dev nD) (t : Fin 8) (y : S6x128x128.Idx) : (iblk m c 14 t : S6x128x128.Idx → EReal) y = m (c, main_arg15) y := by
  blk_ext! [iblk, V, idx t]

/-- Window 15 holds the whole of its array, the bias weights. -/
theorem read15 (c : Dev nD) (t : Fin 8) (y : S6x128x8.Idx) : (iblk m c 15 t : S6x128x8.Idx → EReal) y = m (c, main_arg16) y := by
  blk_ext! [iblk, V, idx t]

/-- Window 16 holds the whole of its array, the pair weights. -/
theorem read16 (c : Dev nD) (t : Fin 8) (y : S6x128x128.Idx) : (iblk m c 16 t : S6x128x128.Idx → EReal) y = m (c, main_arg17) y := by
  blk_ext! [iblk, V, idx t]

/-- A bond's pair index in its block. -/
theorem read4 (c : Dev nD) (t : Fin 8) (g : Fin 2) (a : Fin 192) (R : Fin 3072) (h : R.val = 192 * (2 * t.val + g.val) + a.val)
    (s d : Fin 48) (hs : m (c, main_arg4) (ix2 0 R) = BitVec.ofNat 32 (48 * (2 * t.val + g.val) + s.val))
    (hd : m (c, main_arg4) (ix2 1 R) = BitVec.ofNat 32 (48 * (2 * t.val + g.val) + d.val)) :
    (iblk m c 4 t : S1x2x192x1.Idx → BitVec 32) (ix4 0 g a 0) = BitVec.ofNat 32 (s.val * 48 + d.val) := by
  have e : ((cfg0.win 4).blk t).view.emb (ix4 0 g a 0) = ix4 t g a 0 := by blk_ext [idx t]
  show V m c main_v13 (((cfg0.win 4).blk t).view.emb (ix4 0 g a 0)) = _
  rw [e, entry13, cast13 _ t g a R h]
  pointwise
  rw [rem48_at _ R _ (by omega : 48 * (2 * t.val + g.val) + s.val < 768) (by pointwise; exact hs),
    rem48_at _ R _ (by omega : 48 * (2 * t.val + g.val) + d.val < 768) (by pointwise; exact hd)]
  rw [show (48 * (2 * t.val + g.val) + s.val) % 48 = s.val by omega, show (48 * (2 * t.val + g.val) + d.val) % 48 = d.val by omega]
  show BitVec.ofNat 32 s.val * 48#32 + BitVec.ofNat 32 d.val = _
  rw [BitVec.ofNat_add, BitVec.ofNat_mul]

end Cert.Proof.KernelBlocks

end
-- ==== Proof.KernelArray.lean ====
/- The kernel's result array: the encoder's result for all sixteen graphs. -/
module

public import proofs.«01_k».proof.Proof.KernelBlocks

@[expose] public section

set_option maxRecDepth 16384

noncomputable section

namespace Cert.Proof.KernelArray

open Idealize.ShloMosaic Idealize.ShloMosaic.TcCoe Cert.KernelIdeal Cert.KernelIdeal.Gen Cert.KernelIdeal.Value Cert.Proof.Spec
open Cert.Proof.KernelEmbed Cert.Proof.KernelBlocks Cert.Proof.KernelStack

variable {m : (ℓ : Loc nD τ sig) → Buf (Elt Ideal) ℓ} {P : Params} {G : Fin 16 → Graph}

/-- The launched arguments of device `c` hold the graphs and the parameters. -/
abbrev ArgsAt (m : (ℓ : Loc nD τ sig) → Buf (Elt Ideal) ℓ) (c : Dev nD) (P : Params) (G : Fin 16 → Graph) : Prop :=
  Args (m (c, main_arg0)) (m (c, main_arg1)) (m (c, main_arg2)) (m (c, main_arg3)) (m (c, main_arg4)) (m (c, main_arg5))
    (m (c, main_arg6)) (m (c, main_arg7)) (m (c, main_arg8)) (m (c, main_arg9)) (m (c, main_arg10)) (m (c, main_arg11))
    (m (c, main_arg12)) (m (c, main_arg13)) (m (c, main_arg14)) (m (c, main_arg15)) (m (c, main_arg16)) (m (c, main_arg17)) P G

/-- At grid point `t` the windows hold graphs `2 t` and `2 t + 1`. -/
theorem holds (c : Dev nD) (A : ArgsAt m c P G) (t : Fin 8) :
    Holds (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t)
      (iblk m c 16 t) P (fun g => G (gid t g)) where
  af g i f r hr := (read0 m c t r f ⟨96 * t.val + r.val, by omega⟩ rfl).trans (A.af (gid t g) i f _ (by simp [gid]; omega))
  mass g i r hr := (read1 m c t r ⟨96 * t.val + r.val, by omega⟩ rfl).trans (A.mass (gid t g) i _ (by simp [gid]; omega))
  pos g i d r hr := (read2 m c t r d ⟨96 * t.val + r.val, by omega⟩ rfl).trans (A.pos (gid t g) i d _ (by simp [gid]; omega))
  bf g e f := (read3 m c t g e f ⟨192 * (2 * t.val + g.val) + e.val, by omega⟩ rfl).trans (A.bf (gid t g) e f _ rfl)
  pidx g e := read4 m c t g e ⟨192 * (2 * t.val + g.val) + e.val, by omega⟩ rfl _ _ (A.src (gid t g) e _ rfl) (A.dst (gid t g) e _ rfl)
  at_ f k a := (read5 m c t _).trans (A.at_ f k a)
  mc k := (read6 m c t k).trans (A.mc k)
  mW k a := (read7 m c t _).trans (A.mW k a)
  bt f k a := (read8 m c t _).trans (A.bt f k a)
  dc k := (read9 m c t k).trans (A.dc k)
  dW k a := (read10 m c t _).trans (A.dW k a)
  q l k a := (read11 m c t _).trans (A.q l k a)
  k l k a := (read12 m c t _).trans (A.k l k a)
  v l k a := (read13 m c t _).trans (A.v l k a)
  o l k a := (read14 m c t _).trans (A.o l k a)
  b l k a := (read15 m c t _).trans (A.b l k a)
  e l k a := (read16 m c t _).trans (A.e l k a)

/-- The result: for each pair of graphs, the encoder's rows of the one and then of the other. -/
def result (P : Params) (G : Fin 16 → Graph) : (⟨3, ![8, 96, 128]⟩ : Shape).Idx → EReal := fun y =>
  ((encode P (G ⟨2 * (y 0).val + (y 1).val / 48, by have := (y 0).isLt; have := (y 1).isLt; simp at *; omega⟩)
    ⟨(y 1).val % 48, Nat.mod_lt _ (by norm_num)⟩ (y 2) : ℝ) : EReal)

/-- The block a grid point leaves is its part of the result. -/
theorem block (c : Dev nD) (A : ArgsAt m c P G) (t : Fin 8) (y : S1x96x128.Idx) :
    out0_17 (iblk m c 0 t) (iblk m c 1 t) (iblk m c 2 t) (iblk m c 3 t) (iblk m c 4 t) (iblk m c 5 t) (iblk m c
      6 t) (iblk m c 7 t) (iblk m c 8 t) (iblk m c 9 t) (iblk m c 10 t) (iblk m c 11 t) (iblk m c 12 t) (iblk m c 13 t) (iblk m c 14 t) (iblk m c 15 t) (iblk m c 16 t) y = result P G (((cfg0.win 17).blk t).view.emb y) := by
  idx_vars y
  obtain rfl : y0 = 0 := Subsingleton.elim _ _
  have e : ((cfg0.win 17).blk t).view.emb (ix3 0 y1 y2) = ix3 t y1 y2 := by blk_ext [idx t]
  have h := out_holds (holds c A t) ⟨y1.val / 48, by omega⟩ ⟨y1.val % 48, by omega⟩ y2 y1 (by simp; omega)
  refine h.trans ?_
  show _ = result P G (((cfg0.win 17).blk t).view.emb (ix3 0 y1 y2))
  rw [e]
  rfl

/-- The kernel's array after the run is the result. -/
theorem final (c : Dev nD) (A : ArgsAt m c P G) : (dats m 0 c).arrAt 17 cfg0.N = result P G := by
  refine (dats m 0 c).arrAt_eq_of_covers 17 _ (by decide +kernel) fun t hf y => ?_
  blk_simp
  rw [after0_17]
  exact block c A t y

end Cert.Proof.KernelArray

end
-- ==== Proof.RefLayer.lean ====
/- One layer of the reference on all sixteen graphs: the arrays it computes from real node and pair features are the real
   layer's features. -/
module

public import proofs.«01_k».proof.Proof.Gen.ReferenceIdeal
public import proofs.«01_k».proof.Proof.Spec
public import Idealize.ShloMosaic.Lib.Pointwise

@[expose] public section

set_option maxRecDepth 16384

noncomputable section

open scoped BigOperators

namespace Cert.Proof.RefLayer

open Idealize.ShloMosaic Cert.ReferenceIdeal Cert.ReferenceIdeal.Gen Cert.Proof.Spec

/-- The reference's layer normalisation. -/
def rMean (x : FVec Ideal S16x48x128 .f32) : FVec Ideal S16x48x1 .f32 :=
  Host.divf (broadcastInDim S16x48x1 ![0, 1] bcast_S16x48_S16x48x1_0_1 (Host.reduceAdd x (constant S_ .f32 0x00000000#32)
    reducesTo_S16x48x128_S16x48_d2 h_S_)) (broadcastInDim S16x48x1 ![] bcast_S_S16x48x1 (constant S_ .f32 0x43000000#32))

/-- A node's features less their mean. -/
def rCen (x : FVec Ideal S16x48x128 .f32) : FVec Ideal S16x48x128 .f32 :=
  subf x (broadcastInDim S16x48x128 ![0, 1, 2] bcast_S16x48x1_S16x48x128_0_1_2 (rMean x))

/-- The features less their mean, over their standard deviation. -/
def rLn (x : FVec Ideal S16x48x128 .f32) : FVec Ideal S16x48x128 .f32 :=
  Host.divf (rCen x) (broadcastInDim S16x48x128 ![0, 1, 2] bcast_S16x48x1_S16x48x128_0_1_2 (Host.sqrt (addf (Host.divf
    (broadcastInDim S16x48x1 ![0, 1] bcast_S16x48_S16x48x1_0_1 (Host.reduceAdd (mulf (rCen x) (rCen x)) (constant S_ .f32
    0x00000000#32) reducesTo_S16x48x128_S16x48_d2 h_S_)) (broadcastInDim S16x48x1 ![] bcast_S_S16x48x1 (constant S_ .f32
    0x43000000#32))) (broadcastInDim S16x48x1 ![] bcast_S_S16x48x1 (constant S_ .f32 0x3727C5AC#32)))))

/-- The reference's product of normalised node features with a weight matrix. -/
def rLin (n : FVec Ideal S16x48x128 .f32) (w : FVec Ideal S128x128 .f32) : FVec Ideal S16x48x128 .f32 :=
  Host.dotGeneral dot_S16x48x128_S128x128_S16x48x128_2_0_01_1_n_n none n w

/-- The same, its features split into heads. -/
def rHeads (n : FVec Ideal S16x48x128 .f32) (w : FVec Ideal S128x128 .f32) : FVec Ideal S16x48x8x16 .f32 :=
  shapeCast _ (rLin n w) shapeCasts_S16x48x128_S16x48x8x16

/-- The reference's attention logits. -/
def rLogit (n : FVec Ideal S16x48x128 .f32) (wq wk : FVec Ideal S128x128 .f32) (wb : FVec Ideal S128x8 .f32)
    (e : FVec Ideal S16x48x48x128 .f32) : FVec Ideal S16x8x48x48 .f32 :=
  addf (Host.divf (Host.dotGeneral dot_S16x48x8x16_S16x48x8x16_S16x8x48x48_3_3_1_1_02_02 none (rHeads n wq) (rHeads n wk))
    (broadcastInDim S16x8x48x48 ![] bcast_S_S16x8x48x48 (constant S_ .f32 0x40800000#32))) (transpose S16x8x48x48 [0, 3, 1, 2]
    (Host.dotGeneral dot_S16x48x48x128_S128x8_S16x48x48x8_3_0_012_1_n_n none e wb) transposes_S16x48x48x8_S16x8x48x48_0_3_1_2)

/-- The exponentials of the logits less their row's greatest. -/
def rExp (s : FVec Ideal S16x8x48x48 .f32) : FVec Ideal S16x8x48x48 .f32 :=
  Host.exp (subf s (broadcastInDim S16x8x48x48 ![0, 1, 2, 3] bcast_S16x8x48x1_S16x8x48x48_0_1_2_3 (broadcastInDim S16x8x48x1 ![0, 1,
    2] bcast_S16x8x48_S16x8x48x1_0_1_2 (maximumf (broadcastInDim S16x8x48 ![] bcast_S_S16x8x48 (constant S_ .f32 0xFF800000#32))
    (Host.reduce FloatOps.maximumf s (constant S_ .f32 0xFF800000#32) reducesTo_S16x8x48x48_S16x8x48_d3 h_S_)))))

/-- The reference's softmax, from the exponentials. -/
def rSoft (p : FVec Ideal S16x8x48x48 .f32) : FVec Ideal S16x8x48x48 .f32 :=
  Host.divf p (broadcastInDim S16x8x48x48 ![0, 1, 2, 3] bcast_S16x8x48x1_S16x8x48x48_0_1_2_3 (broadcastInDim S16x8x48x1 ![0, 1, 2]
    bcast_S16x8x48_S16x8x48x1_0_1_2 (Host.reduceAdd p (constant S_ .f32 0x00000000#32) reducesTo_S16x8x48x48_S16x8x48_d3 h_S_)))

/-- The attention's result, the heads side by side. -/
def rAtt (v : FVec Ideal S16x48x8x16 .f32) (a : FVec Ideal S16x8x48x48 .f32) : FVec Ideal S16x48x128 .f32 :=
  shapeCast _ (transpose S16x48x8x16 [0, 3, 1, 2] (Host.dotGeneral dot_S16x48x8x16_S16x8x48x48_S16x8x16x48_1_3_3_2_02_01 none v a)
    transposes_S16x8x16x48_S16x48x8x16_0_3_1_2) shapeCasts_S16x48x8x16_S16x48x128

/-- The reference's new node features. -/
def rX (wq wk wv wo : FVec Ideal S128x128 .f32) (wb : FVec Ideal S128x8 .f32) (x : FVec Ideal S16x48x128 .f32)
    (e : FVec Ideal S16x48x48x128 .f32) : FVec Ideal S16x48x128 .f32 :=
  addf x (rLin (rAtt (rHeads (rLn x) wv) (rSoft (rExp (rLogit (rLn x) wq wk wb e)))) wo)

/-- The reference's new pair features, from the new node features. -/
  def rE (we : FVec Ideal S128x128 .f32) (x : FVec Ideal S16x48x128 .f32) (e : FVec Ideal S16x48x48x128 .f32) : FVec Ideal
    S16x48x48x128 .f32 :=
  addf e (Host.dotGeneral dot_S16x48x48x128_S128x128_S16x48x48x128_3_0_012_1_n_n none (maximumf (addf (addf (broadcastInDim
    S16x48x48x128 ![0, 1, 2, 3] bcast_S16x48x1x128_S16x48x48x128_0_1_2_3 (broadcastInDim S16x48x1x128 ![0, 1, 3]
    bcast_S16x48x128_S16x48x1x128_0_1_3 x)) (broadcastInDim S16x48x48x128 ![0, 1, 2, 3] bcast_S16x1x48x128_S16x48x48x128_0_1_2_3
    (broadcastInDim S16x1x48x128 ![0, 2, 3] bcast_S16x48x128_S16x1x48x128_0_2_3 x))) e) (broadcastInDim S16x48x48x128 ![]
    bcast_S_S16x48x48x128 (constant S_ .f32 0x00000000#32))) we)

/-- An array of node features holds real ones. -/
def HoldsX (x : FVec Ideal S16x48x128 .f32) (X : Fin 16 → Nodes) : Prop := ∀ b i c, x (ix3 b i c) = (X b i c : EReal)
/-- An array of pair features holds real ones. -/
def HoldsE (e : FVec Ideal S16x48x48x128 .f32) (E : Fin 16 → Pairs) : Prop := ∀ b i j c, e (ix4 b i j c) = (E b i j c : EReal)
/-- A weight array holds a real matrix. -/
def HoldsW {n : ℕ} (w : FVec Ideal ⟨2, ![128, n]⟩ .f32) (W : Fin 128 → Fin n → ℝ) : Prop := ∀ i c, w (ix2 i c) = (W i c : EReal)

/-- A node's mean. -/
theorem mean_holds {x : FVec Ideal S16x48x128 .f32} {X : Fin 16 → Nodes} (hx : HoldsX x X) (b : Fin 16) (i : Fin 48) :
    rMean x (ix3 b i 0) = (mean (X b) i : EReal) := by
  pointwise [rMean]
  simp only [hx _ _ _, bits_128, ← coe_sum]
  exact div_coe_coe _ (by norm_num)

/-- A node's features less their mean. -/
theorem cen_holds {x : FVec Ideal S16x48x128 .f32} {X : Fin 16 → Nodes} (hx : HoldsX x X) (b : Fin 16) (i : Fin 48) (c : Fin 128) :
    rCen x (ix3 b i c) = ((X b i c - mean (X b) i : ℝ) : EReal) := by
  pointwise [rCen]
  rw [mean_holds hx, hx, ← EReal.coe_sub]

/-- The reference's layer normalisation is the real one. -/
theorem ln_holds {x : FVec Ideal S16x48x128 .f32} {X : Fin 16 → Nodes} (hx : HoldsX x X) : HoldsX (rLn x) fun b => ln (X b) := by
  intro b i c
  pointwise [rLn]
  simp only [cen_holds hx, bits_128, bits_eps, ← coe_sum, ← EReal.coe_mul]
  rw [div_coe_coe _ (by norm_num : (128 : ℝ) ≠ 0), ← EReal.coe_add]
  change Ideal.div _ (Ideal.sqrt ((var (X b) i + eps : ℝ) : EReal)) = _
  rw [sqrt_coe_nonneg (add_pos_of_nonneg_of_pos (var_nonneg (X b) i) eps_pos).le]
  exact div_coe_coe _ (sd_pos (X b) i).ne'

/-- A product with a weight matrix is the real one. -/
theorem lin_holds {n : FVec Ideal S16x48x128 .f32} {w : FVec Ideal S128x128 .f32} {N : Fin 16 → Nodes} {W : Fin 128 → Fin 128 → ℝ}
    (hn : HoldsX n N) (hw : HoldsW w W) : HoldsX (rLin n w) fun b => lin (N b) W := by
  intro b i c
  pointwise [rLin]
  simp only [hn _ _ _, hw _ _, ← EReal.coe_mul, ← coe_sum]
  rfl

/-- The same, a feature addressed by its head and its lane. -/
theorem heads_holds {n : FVec Ideal S16x48x128 .f32} {w : FVec Ideal S128x128 .f32} {N : Fin 16 → Nodes} {W : Fin 128 → Fin 128 → ℝ}
    (hn : HoldsX n N) (hw : HoldsW w W) (b : Fin 16) (i : Fin 48) (h : Fin 8) (d : Fin 16) :
    rHeads n w (ix4 b i h d) = (lin (N b) W i ⟨h.val * 16 + d.val, by omega⟩ : EReal) := by
  pointwise [rHeads]
  exact lin_holds hn hw b i _

/-- A sum over a head's sixteen lanes, as a sum over the features that belong to it. -/
theorem head_sum (g : Fin 128 → ℝ) (h : Fin 8) :
    (∑ d : Fin 16, g ⟨h.val * 16 + d.val, by omega⟩) = ∑ c : Fin 128, if c.val / 16 = h.val then g c else 0 := by
  rw [← Finset.sum_filter]
  refine Finset.sum_nbij' (fun d => ⟨h.val * 16 + d.val, by omega⟩) (fun c => ⟨c.val % 16, by omega⟩) ?_ ?_ ?_ ?_ ?_
  · intro d _; simp only [Finset.mem_filter, Finset.mem_univ, true_and]; omega
  · intro c _; exact Finset.mem_univ _
  · intro d _; exact Fin.ext (by simp only; omega)
  · intro c hc; simp only [Finset.mem_filter, Finset.mem_univ, true_and] at hc; exact Fin.ext (by simp only; omega)
  · intro d _; rfl

/-- The reference's logits are the real ones. -/
theorem logit_holds {x : FVec Ideal S16x48x128 .f32} {e : FVec Ideal S16x48x48x128 .f32} {wq wk : FVec Ideal S128x128 .f32}
    {wb : FVec Ideal S128x8 .f32} {X : Fin 16 → Nodes} {E : Fin 16 → Pairs} {W : Weights} (hq : HoldsW wq W.q) (hk : HoldsW wk W.k)
    (hb : HoldsW wb W.b) (hx : HoldsX x X) (he : HoldsE e E) (b : Fin 16) (h : Fin 8) (i j : Fin 48) :
    rLogit (rLn x) wq wk wb e (ix4 b h i j) = (logit (X b) (E b) W i h j : EReal) := by
  pointwise [rLogit]
  simp only [heads_holds (ln_holds hx) hq _ _ _ _, heads_holds (ln_holds hx) hk _ _ _ _, he _ _ _ _, hb _ _, bits_4, ← EReal.coe_mul,
    ← coe_sum]
  rw [div_coe_coe _ (by norm_num : (4 : ℝ) ≠ 0), ← EReal.coe_add,
    head_sum (fun c => lin (ln (X b)) W.q i c * lin (ln (X b)) W.k j c) h]
  rfl

/-- The greatest of real numbers is real. -/
theorem fold_real (f : Fin 48 → ℝ) : ∃ M : ℝ, max ⊥ (Finset.univ.fold max (⊥ : EReal) fun j => (f j : EReal)) = (M : EReal) := by
  obtain ⟨j, _, hj⟩ := Finset.exists_mem_eq_sup (Finset.univ : Finset (Fin 48)) Finset.univ_nonempty fun j => (f j : EReal)
  exact ⟨f j, (max_eq_right bot_le).trans hj⟩

/-- The shifted softmax is the plain one: the shift cancels. -/
theorem soft_holds {s : FVec Ideal S16x8x48x48 .f32} {b : Fin 16} {h : Fin 8} {i : Fin 48} {L : Fin 48 → ℝ}
    (hs : ∀ j, s (ix4 b h i j) = (L j : EReal)) (j : Fin 48) :
    rSoft (rExp s) (ix4 b h i j) = ((Real.exp (L j) / ∑ k, Real.exp (L k) : ℝ) : EReal) := by
  obtain ⟨M, hM⟩ := fold_real L
  have he : ∀ j, rExp s (ix4 b h i j) = ((Real.exp (L j) / Real.exp M : ℝ) : EReal) := by
    intro j
    pointwise [rExp]
    simp only [hs, bits_bot]
    rw [hM, ← EReal.coe_sub, Ideal.exp_coe, Real.exp_sub]
  pointwise [rSoft]
  simp only [he, ← coe_sum]
  rw [← Finset.sum_div, div_coe_coe _ (div_pos (den_pos L) (Real.exp_pos M)).ne', div_div_div_cancel_right₀ (Real.exp_pos M).ne']

/-- The reference's new node features are the real ones. -/
theorem x_holds {x : FVec Ideal S16x48x128 .f32} {e : FVec Ideal S16x48x48x128 .f32} {wq wk wv wo : FVec Ideal S128x128 .f32}
    {wb : FVec Ideal S128x8 .f32} {X : Fin 16 → Nodes} {E : Fin 16 → Pairs} {W : Weights} (hq : HoldsW wq W.q) (hk : HoldsW wk W.k)
    (hv : HoldsW wv W.v) (ho : HoldsW wo W.o) (hb : HoldsW wb W.b) (hx : HoldsX x X) (he : HoldsE e E) :
    HoldsX (rX wq wk wv wo wb x e) fun b => newX (X b) (E b) W := by
  have ha : HoldsX (rAtt (rHeads (rLn x) wv) (rSoft (rExp (rLogit (rLn x) wq wk wb e)))) fun b => att (X b) (E b) W := by
    intro b i c
    have hp := fun j => soft_holds (s := rLogit (rLn x) wq wk wb e) (fun j => logit_holds hq hk hb hx he b (headOf c) i j) j
    have hv' : ∀ j, rHeads (rLn x) wv (ix4 b j (headOf c) ⟨c.val % 16, by omega⟩) = (lin (ln (X b)) W.v j c : EReal) := fun j =>
      (heads_holds (ln_holds hx) hv b j _ _).trans (congrArg (fun c => ((lin (ln (X b)) W.v j c : ℝ) : EReal))
        (Fin.ext (by simp only [headOf]; omega)))
    pointwise [rAtt]
    refine (Finset.sum_congr rfl fun j _ => Ideal.mul_congr (hv' j) (hp j)).trans ?_
    simp only [← EReal.coe_mul, ← coe_sum]
    congr 1
    rw [att, Finset.sum_div]
    exact Finset.sum_congr rfl fun j _ => by ring
  intro b i c
  have hl := lin_holds ha ho b i c
  show x (ix3 b i c) + _ = _
  rw [hx, hl, ← EReal.coe_add]
  rfl

/-- The reference's new pair features are the real ones. -/
theorem e_holds {we : FVec Ideal S128x128 .f32} {x : FVec Ideal S16x48x128 .f32} {e : FVec Ideal S16x48x48x128 .f32}
    {W : Weights} {X : Fin 16 → Nodes} {E : Fin 16 → Pairs} (hw : HoldsW we W.e) (hx : HoldsX x X) (he : HoldsE e E) :
    HoldsE (rE we x e) fun b => newE (X b) (E b) W := by
  intro b i j c
  pointwise [rE]
  simp only [hx _ _ _, he _ _ _ _, hw _ _, ← EReal.coe_add, max_coe_zero, ← EReal.coe_mul, ← coe_sum]
  rfl

end Cert.Proof.RefLayer

end
-- ==== Proof.RefTake.lean ====
/- The reference's table look-ups: an index in range reads its row. -/
module

public import proofs.«01_k».proof.Proof.RefLayer
public import Idealize.ShloMosaic.Lib.Routing.Ops
public import Idealize.ShloMosaic.Lib.Routing.OpsSearch

@[expose] public section

set_option maxRecDepth 16384

noncomputable section

open scoped BigOperators

namespace Cert.Proof.RefTake

open Idealize.ShloMosaic Cert.ReferenceIdeal Cert.ReferenceIdeal.Gen Cert.Proof.Spec

/-- A word that stands for a small number is not negative. -/
theorem not_neg {n : ℕ} (hn : n < 768) : IntOp.cmpi .slt (BitVec.ofNat 32 n) 0#32 = 0#1 := by
  obtain ⟨m, rfl⟩ : ∃ m : Fin 768, m.val = n := ⟨⟨n, hn⟩, rfl⟩
  clear hn
  revert m
  decide +kernel

/-- The atoms' row numbers as a look-up reads them: a negative one counted from the table's end. -/
def rWrapA (k : IVec S768 32) : IVec S768x1 32 :=
  broadcastInDim S768x1 ![0] bcast_S768_S768x1_0 (select (cmpi .slt k (broadcastInDim S768 ![] bcast_S_S768 (constantI S_ 32 0#32)))
    (addi k (broadcastInDim S768 ![] bcast_S_S768 (constantI S_ 32 32#32))) k)

/-- Which row numbers are in the table's range. -/
def rInA (j : IVec S768x1 32) : IVec S768x1 1 :=
  andi (cmpi .sge j (broadcastInDim S768x1 ![] bcast_S_S768x1 (constantI S_ 32 0#32))) (cmpi .sle j
    (broadcastInDim S768x1 ![0, 1] bcast_S1x1_S768x1_0_1 (broadcastInDim S1x1 ![1] bcast_S1_S1x1_1 (constantI S1 32 31#32))))

/-- The atoms' look-up in a table of thirty-two rows. -/
def rTakeA (T : FVec Ideal S32x128 .f32) (k : IVec S768 32) : FVec Ideal S768x128 .f32 :=
  select (broadcastInDim S768x128 ![0] bcast_S768_S768x128_0 (Host.reduce IntOp.andi (rInA (rWrapA k)) (constantI S_ 1 1#1)
      reducesTo_S768x1_S768_d1 h_S_))
    (Host.gather gather_S32x128_S768x1_S768x128_1_0_n_n_0_1_1128 T (rWrapA k))
    (broadcastInDim S768x128 ![] bcast_S_S768x128 (constant S_ .f32 0x7FC00000#32))

/-- An atom category in range is not wrapped. -/
theorem wrapA {k : IVec S768 32} {r : Fin 768} {n : Fin 32} (h : k (ix1 r) = BitVec.ofNat 32 n.val) :
    rWrapA k (ix2 r 0) = BitVec.ofNat 32 n.val := by
  pointwise [rWrapA]
  rw [h, not_neg (by omega)]
  rfl

/-- An atom category in range passes the range test. -/
theorem inA {j : IVec S768x1 32} {r : Fin 768} {n : Fin 32} (h : j (ix2 r 0) = BitVec.ofNat 32 n.val) : rInA j (ix2 r 0) = 1#1 := by
  pointwise [rInA]
  rw [h]
  clear h
  revert n
  decide +kernel

/-- A look-up in an atom table gives the row. -/
theorem takeA {T : FVec Ideal S32x128 .f32} {k : IVec S768 32} {r : Fin 768} {n : Fin 32} (h : k (ix1 r) = BitVec.ofNat 32 n.val)
    (c : Fin 128) : rTakeA T k (ix2 r c) = T (ix2 n c) := by
  have hg := Routing.gather_row gather_S32x128_S768x1_S768x128_1_0_n_n_0_1_1128 rfl rfl rfl rfl rfl T (rWrapA k) r c n (wrapA h) (by norm_num)
  pointwise [rTakeA]
  have hm : Finset.fold IntOp.andi (1#1) (fun x => rInA (rWrapA k) (ix2 r x)) (Finset.univ : Finset (Fin 1)) = 1#1 := by
    rw [Finset.univ_unique, Finset.fold_singleton]
    exact (congrArg (IntOp.andi · 1#1) (inA (wrapA h))).trans (by decide)
  exact (congrArg (Scalar.select · _ _) hm).trans hg

/-- The bonds' row numbers as a look-up reads them: a negative one counted from the end `w` of what is read. -/
def rWrapE (w : BitVec 32) (k : IVec S3072 32) : IVec S3072x1 32 :=
  broadcastInDim S3072x1 ![0] bcast_S3072_S3072x1_0 (select (cmpi .slt k (broadcastInDim S3072 ![] bcast_S_S3072 (constantI S_ 32 0#32)))
    (addi k (broadcastInDim S3072 ![] bcast_S_S3072 (constantI S_ 32 w))) k)

/-- Which row numbers are in the table's range. -/
def rInE (j : IVec S3072x1 32) : IVec S3072x1 1 :=
  andi (cmpi .sge j (broadcastInDim S3072x1 ![] bcast_S_S3072x1 (constantI S_ 32 0#32))) (cmpi .sle j
    (broadcastInDim S3072x1 ![0, 1] bcast_S1x1_S3072x1_0_1 (broadcastInDim S1x1 ![1] bcast_S1_S1x1_1 (constantI S1 32 7#32))))

/-- The bonds' look-up in a table of eight rows. -/
def rTakeE (T : FVec Ideal S8x128 .f32) (k : IVec S3072 32) : FVec Ideal S3072x128 .f32 :=
  select (broadcastInDim S3072x128 ![0] bcast_S3072_S3072x128_0 (Host.reduce IntOp.andi (rInE (rWrapE 8#32 k)) (constantI S_ 1 1#1)
      reducesTo_S3072x1_S3072_d1 h_S_))
    (Host.gather gather_S8x128_S3072x1_S3072x128_1_0_n_n_0_1_1128 T (rWrapE 8#32 k))
    (broadcastInDim S3072x128 ![] bcast_S_S3072x128 (constant S_ .f32 0x7FC00000#32))

/-- A nonnegative number is not wrapped. -/
theorem wrapE {w : BitVec 32} {k : IVec S3072 32} {r : Fin 3072} {n : ℕ} (hn : n < 768) (h : k (ix1 r) = BitVec.ofNat 32 n) :
    rWrapE w k (ix2 r 0) = BitVec.ofNat 32 n := by
  pointwise [rWrapE]
  rw [h, not_neg hn]
  rfl

/-- A bond category in range passes the range test. -/
theorem inE {j : IVec S3072x1 32} {r : Fin 3072} {n : Fin 8} (h : j (ix2 r 0) = BitVec.ofNat 32 n.val) : rInE j (ix2 r 0) = 1#1 := by
  pointwise [rInE]
  rw [h]
  clear h
  revert n
  decide +kernel

/-- A look-up in a bond table gives the row. -/
theorem takeE {T : FVec Ideal S8x128 .f32} {k : IVec S3072 32} {r : Fin 3072} {n : Fin 8} (h : k (ix1 r) = BitVec.ofNat 32 n.val)
    (c : Fin 128) : rTakeE T k (ix2 r c) = T (ix2 n c) := by
  have hw := wrapE (w := 8#32) (n := n.val) (by omega) h
  have hg := Routing.gather_row gather_S8x128_S3072x1_S3072x128_1_0_n_n_0_1_1128 rfl rfl rfl rfl rfl T (rWrapE 8#32 k) r c n hw (by norm_num)
  pointwise [rTakeE]
  have hm : Finset.fold IntOp.andi (1#1) (fun x => rInE (rWrapE 8#32 k) (ix2 r x)) (Finset.univ : Finset (Fin 1)) = 1#1 := by
    rw [Finset.univ_unique, Finset.fold_singleton]
    exact (congrArg (IntOp.andi · 1#1) (inE hw)).trans (by decide)
  exact (congrArg (Scalar.select · _ _) hm).trans hg

/-- The graph of every bond's first atom. -/
def rGraph (g : IVec S768 32) (s : IVec S3072 32) : IVec S3072 32 :=
  Host.gather gather_S768_S3072x1_S3072_n_0_n_n_0_1_1 g (rWrapE 768#32 s)

/-- A look-up in `node2graph` gives the node's graph. -/
theorem graph_at {g : IVec S768 32} {s : IVec S3072 32} {r : Fin 3072} {n : ℕ} (hn : n < 768) (h : s (ix1 r) = BitVec.ofNat 32 n) :
    rGraph g s (ix1 r) = g (ix1 ⟨n, hn⟩) :=
  Routing.take_ap gather_S768_S3072x1_S3072_n_0_n_n_0_1_1 rfl rfl rfl rfl g (rWrapE 768#32 s) r hn (by omega)
    (wrapE (w := 768#32) hn h)

end Cert.Proof.RefTake

end
-- ==== Proof.RefNodes.lean ====
/- The reference's atom embedding: nine table rows and the mass's radial basis. -/
module

public import proofs.«01_k».proof.Proof.RefTake
public import proofs.«01_k».proof.Proof.KernelEmbed
public import proofs.«01_k».proof.Proof.Args

@[expose] public section

set_option maxRecDepth 16384

noncomputable section

open scoped BigOperators

namespace Cert.Proof.RefNodes

open Idealize.ShloMosaic Cert.ReferenceIdeal Cert.ReferenceIdeal.Gen Cert.Proof.Spec Cert.Proof.RefTake Cert.Proof.RefLayer
open Cert.Proof.KernelEmbed (rbf_coe)

/-- One feature's rows: column `f` of the features looked up in table `f`. -/
def rEmb (a0 : IVec S768x9 32) (a6 : FVec Ideal S9x32x128 .f32) (f : ℕ) (hs : S768x9.Slices ![0, f] S768x1)
    (ht : S9x32x128.Slices ![f, 0, 0] S1x32x128) : FVec Ideal S768x128 .f32 :=
  rTakeA (shapeCast S32x128 (extractStridedSlice S1x32x128 ![f, 0, 0] a6 ht) shapeCasts_S1x32x128_S32x128)
    (shapeCast S768 (extractStridedSlice S768x1 ![0, f] a0 hs) shapeCasts_S768x1_S768)

/-- A column as a line. -/
theorem col_line (X : IVec S768x1 32) (r : Fin 768) : shapeCast S768 X shapeCasts_S768x1_S768 (ix1 r) = X (ix2 r 0) := by
  pointwise

/-- One table without its leading axis. -/
theorem tab_line (X : FVec Ideal S1x32x128 .f32) (n : Fin 32) (c : Fin 128) :
    shapeCast S32x128 X shapeCasts_S1x32x128_S32x128 (ix2 n c) = X (ix3 0 n c) := by
  pointwise

/-- A looked-up row of one atom table. -/
theorem emb_at {a0 : IVec S768x9 32} {a6 : FVec Ideal S9x32x128 .f32} (f : ℕ) (hf : f < 9) (hs ht) {r : Fin 768} {n : Fin 32} (c : Fin 128)
    (h : a0 (ix2 r ⟨f, hf⟩) = BitVec.ofNat 32 n.val) : rEmb a0 a6 f hs ht (ix2 r c) = a6 (ix3 ⟨f, hf⟩ n c) := by
  refine (takeA (n := n) ((col_line _ r).trans (Eq.trans (congrArg a0 ?_) h)) c).trans ((tab_line _ n c).trans (congrArg a6 ?_))
  · funext a
    refine Fin.ext ?_
    fin_cases a <;> simp
  · funext a
    refine Fin.ext ?_
    fin_cases a <;> simp

/-- The nine table rows of every atom. -/
def rRows (a0 : IVec S768x9 32) (a6 : FVec Ideal S9x32x128 .f32) : FVec Ideal S768x128 .f32 :=
  addf (addf (addf (addf (addf (addf (addf (addf (addf (broadcastInDim S768x128 ![] bcast_S_S768x128 (constant S_ .f32 0x00000000#32))
    (rEmb a0 a6 0 slices_S768x9_S768x1_0_0 slices_S9x32x128_S1x32x128_0_0_0))
    (rEmb a0 a6 1 slices_S768x9_S768x1_0_1 slices_S9x32x128_S1x32x128_1_0_0))
    (rEmb a0 a6 2 slices_S768x9_S768x1_0_2 slices_S9x32x128_S1x32x128_2_0_0))
    (rEmb a0 a6 3 slices_S768x9_S768x1_0_3 slices_S9x32x128_S1x32x128_3_0_0))
    (rEmb a0 a6 4 slices_S768x9_S768x1_0_4 slices_S9x32x128_S1x32x128_4_0_0))
    (rEmb a0 a6 5 slices_S768x9_S768x1_0_5 slices_S9x32x128_S1x32x128_5_0_0))
    (rEmb a0 a6 6 slices_S768x9_S768x1_0_6 slices_S9x32x128_S1x32x128_6_0_0))
    (rEmb a0 a6 7 slices_S768x9_S768x1_0_7 slices_S9x32x128_S1x32x128_7_0_0))
    (rEmb a0 a6 8 slices_S768x9_S768x1_0_8 slices_S9x32x128_S1x32x128_8_0_0)

/-- The distances of the masses to the centres. -/
def rOff (a1 : FVec Ideal S768 .f32) (a7 : FVec Ideal S16 .f32) : FVec Ideal S768x16 .f32 :=
  subf (broadcastInDim S768x16 ![0, 1] bcast_S768x1_S768x16_0_1 (broadcastInDim S768x1 ![0] bcast_S768_S768x1_0 a1))
    (broadcastInDim S768x16 ![0, 1] bcast_S1x16_S768x16_0_1 (broadcastInDim S1x16 ![1] bcast_S16_S1x16_1 a7))

/-- The masses' radial basis features through their matrix. -/
def rMass (a1 : FVec Ideal S768 .f32) (a7 : FVec Ideal S16 .f32) (a8 : FVec Ideal S16x128 .f32) : FVec Ideal S768x128 .f32 :=
  Host.dotGeneral dot_S768x16_S16x128_S768x128_1_0_0_1_n_n none (Host.exp (mulf (broadcastInDim S768x16 ![] bcast_S_S768x16 (constant S_ .f32 0xC1200000#32))
    (mulf (rOff a1 a7) (rOff a1 a7)))) a8

/-- The initial node features as the reference computes them. -/
def rX0 (a0 : IVec S768x9 32) (a1 : FVec Ideal S768 .f32) (a6 : FVec Ideal S9x32x128 .f32) (a7 : FVec Ideal S16 .f32)
    (a8 : FVec Ideal S16x128 .f32) : FVec Ideal S16x48x128 .f32 :=
  shapeCast S16x48x128 (addf (rRows a0 a6) (rMass a1 a7 a8)) shapeCasts_S768x128_S16x48x128

/-- The nine looked-up rows, added up. -/
theorem rows_at {a0 : IVec S768x9 32} {a6 : FVec Ideal S9x32x128 .f32} {r : Fin 768} (n : Fin 9 → Fin 32) (T : Fin 9 → Fin 32 → Fin 128 → ℝ)
    (h : ∀ f, a0 (ix2 r f) = BitVec.ofNat 32 (n f).val) (ht : ∀ f a c, a6 (ix3 f a c) = (T f a c : EReal)) (c : Fin 128) :
    rRows a0 a6 (ix2 r c) = ((∑ f, T f (n f) c : ℝ) : EReal) := by
  have he : ∀ (f : ℕ) (hf : f < 9) hs hc, rEmb a0 a6 f hs hc (ix2 r c) = (T ⟨f, hf⟩ (n ⟨f, hf⟩) c : EReal) := fun f hf hs hc =>
    (emb_at f hf hs hc c (h ⟨f, hf⟩)).trans (ht _ _ _)
  pointwise [rRows]
  rw [he 0 (by omega), he 1 (by omega), he 2 (by omega), he 3 (by omega), he 4 (by omega), he 5 (by omega), he 6 (by omega),
    he 7 (by omega), he 8 (by omega)]
  simp only [← EReal.coe_add, Fin.sum_univ_succ, Fin.sum_univ_zero]
  congr 1
  simp only [add_assoc, add_zero]
  rfl

/-- The mass's radial basis through its matrix. -/
theorem mass_at {a1 : FVec Ideal S768 .f32} {a7 : FVec Ideal S16 .f32} {a8 : FVec Ideal S16x128 .f32} {r : Fin 768} (m : EReal)
    (ce : Fin 16 → EReal) (W : Fin 16 → Fin 128 → ℝ) (h : a1 (ix1 r) = m) (hc : ∀ k, a7 (ix1 k) = ce k)
    (hW : ∀ k c, a8 (ix2 k c) = (W k c : EReal)) (c : Fin 128) : rMass a1 a7 a8 (ix2 r c) = ((rbf m ce W c : ℝ) : EReal) := by
  pointwise [rMass, rOff]
  simp only [h, hc, hW]
  exact rbf_coe m ce W c

variable {a0 : IVec S768x9 32} {a1 : FVec Ideal S768 .f32} {a2 : IVec S3072x3 32} {a3 : FVec Ideal S768x3 .f32} {a4 : IVec S2x3072 32}
  {a5 : IVec S768 32} {a6 : FVec Ideal S9x32x128 .f32} {a7 : FVec Ideal S16 .f32} {a8 : FVec Ideal S16x128 .f32}
  {a9 : FVec Ideal S3x8x128 .f32} {a10 : FVec Ideal S16 .f32} {a11 : FVec Ideal S16x128 .f32} {a12 a13 a14 a15 : FVec Ideal S6x128x128 .f32}
  {a16 : FVec Ideal S6x128x8 .f32} {a17 : FVec Ideal S6x128x128 .f32} {P : Params} {G : Fin 16 → Graph}

/-- The sum of both embeddings, split into graphs. -/
theorem add_line (X Y : FVec Ideal S768x128 .f32) (b : Fin 16) (i : Fin 48) (c : Fin 128) (r : Fin 768) (hr : r.val = 48 * b.val + i.val) :
    shapeCast S16x48x128 (addf X Y) shapeCasts_S768x128_S16x48x128 (ix3 b i c) = X (ix2 r c) + Y (ix2 r c) := by
  have e : (⟨b.val * 48 + i.val, by omega⟩ : Fin 768) = r := Fin.ext (by simp only; omega)
  pointwise
  rw [e]

/-- The reference's initial node features are the real ones. -/
theorem x0_holds (A : Args a0 a1 a2 a3 a4 a5 a6 a7 a8 a9 a10 a11 a12 a13 a14 a15 a16 a17 P G) :
    HoldsX (rX0 a0 a1 a6 a7 a8) fun b => initX P (G b) := by
  intro b i c
  have hr : 48 * b.val + i.val < 768 := by omega
  refine (add_line _ _ b i c ⟨_, hr⟩ rfl).trans ?_
  rw [rows_at (fun f => (G b).af i f) P.at_ (fun f => A.af b i f _ rfl) A.at_ c,
    mass_at ((G b).mass i) P.mc P.mW (A.mass b i _ rfl) A.mc A.mW c, ← EReal.coe_add]
  rfl

end Cert.Proof.RefNodes

end
-- ==== Proof.RefPairs.lean ====
/- The reference's pair embedding: the distances' radial basis, and every bond's embedding added at its pair of atoms. -/
module

public import proofs.«01_k».proof.Proof.RefNodes
public import Idealize.ShloMosaic.Lib.Routing.OpsPair

@[expose] public section

set_option maxRecDepth 16384

noncomputable section

open scoped BigOperators

namespace Cert.Proof.RefPairs

open Idealize.ShloMosaic Cert.ReferenceIdeal Cert.ReferenceIdeal.Gen Cert.Proof.Spec Cert.Proof.RefTake Cert.Proof.RefLayer
open Cert.Proof.KernelEmbed (rbf_coe)

/-! ### Where an update lands -/

/-- Where the reference adds row `r` of the bonds' embeddings. -/
abbrev dSc := scatter_S16x48x48x128_S3072x3_S3072x128_1_012_012_1

/-- Where an update's entry lies along axis 0 of its window. -/
theorem win0 (r : Fin 3072) (c : Fin 128) : dSc.window (ix2 r c) 0 = 0 := rfl
/-- Where an update's entry lies along axis 1 of its window. -/
theorem win1 (r : Fin 3072) (c : Fin 128) : dSc.window (ix2 r c) 1 = 0 := rfl
/-- Where an update's entry lies along axis 2 of its window. -/
theorem win2 (r : Fin 3072) (c : Fin 128) : dSc.window (ix2 r c) 2 = 0 := rfl
/-- Where an update's entry lies along axis 3 of its window. -/
theorem win3 (r : Fin 3072) (c : Fin 128) : dSc.window (ix2 r c) 3 = c.val := rfl
/-- Where an update's window starts along axis 0. -/
theorem start0 (r : Fin 3072) (c : Fin 128) (J : IVec S3072x3 32) : dSc.start (ix2 r c) J 0 = (J (ix2 r 0)).toInt := by
  unfold ScatterDims.start
  rw [dif_pos (by decide)]
  refine congrArg (fun z => (J z).toInt) ?_
  funext a
  fin_cases a <;> rfl
/-- Where an update's window starts along axis 1. -/
theorem start1 (r : Fin 3072) (c : Fin 128) (J : IVec S3072x3 32) : dSc.start (ix2 r c) J 1 = (J (ix2 r 1)).toInt := by
  unfold ScatterDims.start
  rw [dif_pos (by decide)]
  refine congrArg (fun z => (J z).toInt) ?_
  funext a
  fin_cases a <;> rfl
/-- Where an update's window starts along axis 2. -/
theorem start2 (r : Fin 3072) (c : Fin 128) (J : IVec S3072x3 32) : dSc.start (ix2 r c) J 2 = (J (ix2 r 2)).toInt := by
  unfold ScatterDims.start
  rw [dif_pos (by decide)]
  refine congrArg (fun z => (J z).toInt) ?_
  funext a
  fin_cases a <;> rfl
/-- Where an update's window starts along axis 3. -/
theorem start3 (r : Fin 3072) (c : Fin 128) (J : IVec S3072x3 32) : dSc.start (ix2 r c) J 3 = 0 := rfl

/-- A node number's signed value. -/
theorem toInt_small {n : ℕ} (hn : n < 768) : (BitVec.ofNat 32 n).toInt = (n : Int) := by
  obtain ⟨m, rfl⟩ : ∃ m : Fin 768, m.val = n := ⟨⟨n, hn⟩, rfl⟩
  clear hn
  revert m
  decide +kernel

/-- A row of updates lands at the graph and the pair of atoms its three words name. -/
theorem lands {J : IVec S3072x3 32} {r : Fin 3072} {b' : Fin 16} {i' j' : Fin 48} (h0 : J (ix2 r 0) = BitVec.ofNat 32 b'.val)
    (h1 : J (ix2 r 1) = BitVec.ofNat 32 i'.val) (h2 : J (ix2 r 2) = BitVec.ofNat 32 j'.val) (c' : Fin 128) (b : Fin 16) (i j : Fin 48)
    (c : Fin 128) : dSc.resultIdx? (ix2 r c') J = some (ix4 b i j c) ↔ b' = b ∧ i' = i ∧ j' = j ∧ c' = c := by
  rw [Routing.resultIdx?_eq_some]
  constructor
  · intro h
    have e0 := h 0
    have e1 := h 1
    have e2 := h 2
    have e3 := h 3
    rw [start0, win0, h0, toInt_small (by omega)] at e0
    rw [start1, win1, h1, toInt_small (by omega)] at e1
    rw [start2, win2, h2, toInt_small (by omega)] at e2
    rw [start3, win3] at e3
    replace e0 : (b'.val : Int) + (0 : ℕ) = (b.val : Int) := e0
    replace e1 : (i'.val : Int) + (0 : ℕ) = (i.val : Int) := e1
    replace e2 : (j'.val : Int) + (0 : ℕ) = (j.val : Int) := e2
    replace e3 : (0 : Int) + (c'.val : Int) = (c.val : Int) := e3
    exact ⟨Fin.ext (by omega), Fin.ext (by omega), Fin.ext (by omega), Fin.ext (by omega)⟩
  · rintro ⟨rfl, rfl, rfl, rfl⟩ a
    have ha : a = 0 ∨ a = 1 ∨ a = 2 ∨ a = 3 := by
      revert a
      decide
    rcases ha with rfl | rfl | rfl | rfl
    · rw [start0, win0, h0, toInt_small (by omega)]
      exact Int.add_zero _
    · rw [start1, win1, h1, toInt_small (by omega)]
      exact Int.add_zero _
    · rw [start2, win2, h2, toInt_small (by omega)]
      exact Int.add_zero _
    · rw [start3, win3]
      exact Int.zero_add _

/-- The rows of updates that name graph by graph its bonds' pairs of atoms. -/
def Names (J : IVec S3072x3 32) (G : Fin 16 → Graph) : Prop :=
  ∀ (b : Fin 16) (e : Fin 192) (r : Fin 3072), r.val = 192 * b.val + e.val →
    J (ix2 r 0) = BitVec.ofNat 32 b.val ∧ J (ix2 r 1) = BitVec.ofNat 32 ((G b).src e).val ∧ J (ix2 r 2) = BitVec.ofNat 32 ((G b).dst e).val

/-- What is added at a pair of atoms: the updates of the graph's bonds between them. -/
theorem scatter_sum {J : IVec S3072x3 32} {G : Fin 16 → Graph} (hJ : Names J G) (X : FVec Ideal S16x48x48x128 .f32)
    (U : FVec Ideal S3072x128 .f32) (b : Fin 16) (i j : Fin 48) (c : Fin 128) :
    Host.scatterAdd dSc X J U (ix4 b i j c) = X (ix4 b i j c)
      + ∑ e : Fin 192, if (G b).src e = i ∧ (G b).dst e = j then U (ix2 ⟨192 * b.val + e.val, by omega⟩ c) else 0 := by
  refine congrArg (X (ix4 b i j c) + ·) ?_
  rw [← Finset.sum_filter]
  symm
  refine Finset.sum_bij (fun e _ => ix2 ⟨192 * b.val + e.val, by omega⟩ c) ?_ ?_ ?_ ?_
  · intro e he
    obtain ⟨h0, h1, h2⟩ := hJ b e ⟨192 * b.val + e.val, by omega⟩ rfl
    have he := (Finset.mem_filter.1 he).2
    exact Finset.mem_filter.2 ⟨Finset.mem_univ _, (lands h0 h1 h2 c b i j c).2 ⟨rfl, he.1, he.2, rfl⟩⟩
  · intro e _ e' _ h
    have := congrArg Fin.val (congrFun h 0)
    replace this : 192 * b.val + e.val = 192 * b.val + e'.val := this
    exact Fin.ext (by omega)
  · intro y hy
    idx_vars y
    have hy := (Finset.mem_filter.1 hy).2
    have hr : y0.val = 192 * (y0.val / 192) + y0.val % 192 := by omega
    obtain ⟨h0, h1, h2⟩ := hJ ⟨y0.val / 192, by omega⟩ ⟨y0.val % 192, by omega⟩ y0 hr
    obtain ⟨hb, hi, hj, hc⟩ := (lands h0 h1 h2 y1 b i j c).1 hy
    subst hb hc
    refine ⟨⟨y0.val % 192, by omega⟩, Finset.mem_filter.2 ⟨Finset.mem_univ _, hi, hj⟩, ?_⟩
    exact congrArg (ix2 · y1) (Fin.ext hr.symm)
  · intro e _
    rfl

/-! ### The three words of a row -/

/-- A node's number inside its graph. -/
theorem loc_word (b : Fin 16) (i : Fin 48) :
    IntOp.subi (BitVec.ofNat 32 (48 * b.val + i.val)) (IntOp.muli (BitVec.ofNat 32 b.val) 48#32) = BitVec.ofNat 32 i.val := by
  revert b i
  decide +kernel

/-- The bonds' first atoms, and their second ones. -/
def rSrc (a4 : IVec S2x3072 32) : IVec S3072 32 :=
  shapeCast S3072 (extractStridedSlice S1x3072 ![0, 0] a4 slices_S2x3072_S1x3072_0_0) shapeCasts_S1x3072_S3072
/-- The bonds' second end atoms. -/
def rDst (a4 : IVec S2x3072 32) : IVec S3072 32 :=
  shapeCast S3072 (extractStridedSlice S1x3072 ![1, 0] a4 slices_S2x3072_S1x3072_1_0) shapeCasts_S1x3072_S3072

/-- Atoms counted inside their graphs. -/
def rLoc (k g : IVec S3072 32) : IVec S3072 32 := subi k (muli g (broadcastInDim S3072 ![] bcast_S_S3072 (constantI S_ 32 48#32)))

/-- Graph, first atom and second atom of every bond. -/
def rWhere (a4 : IVec S2x3072 32) (a5 : IVec S768 32) : IVec S3072x3 32 :=
  concatenate S3072x3 1 [⟨S3072x1, rWrapE 16#32 (rGraph a5 (rSrc a4))⟩, ⟨S3072x1, rWrapE 48#32 (rLoc (rSrc a4) (rGraph a5 (rSrc a4)))⟩,
    ⟨S3072x1, rWrapE 48#32 (rLoc (rDst a4) (rGraph a5 (rSrc a4)))⟩] concatenates_S3072x1_S3072x1_S3072x1_S3072x3_d1

/-- An end atom's number inside its graph. -/
theorem loc_at {k g : IVec S3072 32} {r : Fin 3072} {b : Fin 16} {i : Fin 48} (hk : k (ix1 r) = BitVec.ofNat 32 (48 * b.val + i.val))
    (hg : g (ix1 r) = BitVec.ofNat 32 b.val) : rLoc k g (ix1 r) = BitVec.ofNat 32 i.val := by
  pointwise [rLoc]
  rw [hk, hg]
  exact loc_word b i

/-- Column 0 of the three joined. -/
theorem join0 (A B C : IVec S3072x1 32) (r : Fin 3072) :
    concatenate S3072x3 1 [⟨S3072x1, A⟩, ⟨S3072x1, B⟩, ⟨S3072x1, C⟩] concatenates_S3072x1_S3072x1_S3072x1_S3072x3_d1 (ix2 r 0) = A (ix2 r 0) := by
  pointwise
/-- Column 1 of the three joined. -/
theorem join1 (A B C : IVec S3072x1 32) (r : Fin 3072) :
    concatenate S3072x3 1 [⟨S3072x1, A⟩, ⟨S3072x1, B⟩, ⟨S3072x1, C⟩] concatenates_S3072x1_S3072x1_S3072x1_S3072x3_d1 (ix2 r 1) = B (ix2 r 0) := by
  pointwise
/-- Column 2 of the three joined. -/
theorem join2 (A B C : IVec S3072x1 32) (r : Fin 3072) :
    concatenate S3072x3 1 [⟨S3072x1, A⟩, ⟨S3072x1, B⟩, ⟨S3072x1, C⟩] concatenates_S3072x1_S3072x1_S3072x1_S3072x3_d1 (ix2 r 2) = C (ix2 r 0) := by
  pointwise

/-- A bond's first end atom. -/
theorem src_line (a4 : IVec S2x3072 32) (r : Fin 3072) : rSrc a4 (ix1 r) = a4 (ix2 0 r) := by
  pointwise [rSrc]
/-- A bond's second end atom. -/
theorem dst_line (a4 : IVec S2x3072 32) (r : Fin 3072) : rDst a4 (ix1 r) = a4 (ix2 1 r) := by
  pointwise [rDst]

variable {a0 : IVec S768x9 32} {a1 : FVec Ideal S768 .f32} {a2 : IVec S3072x3 32} {a3 : FVec Ideal S768x3 .f32} {a4 : IVec S2x3072 32}
  {a5 : IVec S768 32} {a6 : FVec Ideal S9x32x128 .f32} {a7 : FVec Ideal S16 .f32} {a8 : FVec Ideal S16x128 .f32}
  {a9 : FVec Ideal S3x8x128 .f32} {a10 : FVec Ideal S16 .f32} {a11 : FVec Ideal S16x128 .f32} {a12 a13 a14 a15 : FVec Ideal S6x128x128 .f32}
  {a16 : FVec Ideal S6x128x8 .f32} {a17 : FVec Ideal S6x128x128 .f32} {P : Params} {G : Fin 16 → Graph}

/-- The reference's rows name the graphs' bonds. -/
theorem where_names (A : Args a0 a1 a2 a3 a4 a5 a6 a7 a8 a9 a10 a11 a12 a13 a14 a15 a16 a17 P G) : Names (rWhere a4 a5) G := by
  intro b e r hr
  have hs : rSrc a4 (ix1 r) = BitVec.ofNat 32 (48 * b.val + ((G b).src e).val) := (src_line a4 r).trans (A.src b e r hr)
  have hd : rDst a4 (ix1 r) = BitVec.ofNat 32 (48 * b.val + ((G b).dst e).val) := (dst_line a4 r).trans (A.dst b e r hr)
  have hg : rGraph a5 (rSrc a4) (ix1 r) = BitVec.ofNat 32 b.val :=
    (graph_at (by omega) hs).trans (A.graph b ((G b).src e) _ rfl)
  exact ⟨(join0 _ _ _ r).trans (wrapE (by omega) hg), (join1 _ _ _ r).trans (wrapE (by omega) (loc_at hs hg)),
    (join2 _ _ _ r).trans (wrapE (by omega) (loc_at hd hg))⟩

end Cert.Proof.RefPairs

end
-- ==== Proof.RefStart.lean ====
/- The reference's initial pair features are the real ones. -/
module

public import proofs.«01_k».proof.Proof.RefPairs

@[expose] public section

set_option maxRecDepth 16384

noncomputable section

open scoped BigOperators

namespace Cert.Proof.RefStart

open Idealize.ShloMosaic Cert.ReferenceIdeal Cert.ReferenceIdeal.Gen Cert.Proof.Spec Cert.Proof.RefTake Cert.Proof.RefLayer Cert.Proof.RefPairs
open Cert.Proof.KernelEmbed (rbf_coe)

/-- One bond feature's rows: column `f` of the features looked up in table `f`. -/
def rEmb (a2 : IVec S3072x3 32) (a9 : FVec Ideal S3x8x128 .f32) (f : ℕ) (hs : S3072x3.Slices ![0, f] S3072x1)
    (ht : S3x8x128.Slices ![f, 0, 0] S1x8x128) : FVec Ideal S3072x128 .f32 :=
  rTakeE (shapeCast S8x128 (extractStridedSlice S1x8x128 ![f, 0, 0] a9 ht) shapeCasts_S1x8x128_S8x128)
    (shapeCast S3072 (extractStridedSlice S3072x1 ![0, f] a2 hs) shapeCasts_S3072x1_S3072)

/-- A column as a line. -/
theorem col_line (X : IVec S3072x1 32) (r : Fin 3072) : shapeCast S3072 X shapeCasts_S3072x1_S3072 (ix1 r) = X (ix2 r 0) := by
  pointwise

/-- One table without its leading axis. -/
theorem tab_line (X : FVec Ideal S1x8x128 .f32) (n : Fin 8) (c : Fin 128) :
    shapeCast S8x128 X shapeCasts_S1x8x128_S8x128 (ix2 n c) = X (ix3 0 n c) := by
  pointwise

/-- A looked-up row of one bond table. -/
theorem emb_at {a2 : IVec S3072x3 32} {a9 : FVec Ideal S3x8x128 .f32} (f : ℕ) (hf : f < 3) (hs ht) {r : Fin 3072} {n : Fin 8} (c : Fin 128)
    (h : a2 (ix2 r ⟨f, hf⟩) = BitVec.ofNat 32 n.val) : rEmb a2 a9 f hs ht (ix2 r c) = a9 (ix3 ⟨f, hf⟩ n c) := by
  refine (takeE (n := n) ((col_line _ r).trans (Eq.trans (congrArg a2 ?_) h)) c).trans ((tab_line _ n c).trans (congrArg a9 ?_))
  · funext a
    refine Fin.ext ?_
    fin_cases a <;> simp
  · funext a
    refine Fin.ext ?_
    fin_cases a <;> simp

/-- The three table rows of every bond. -/
def rBonds (a2 : IVec S3072x3 32) (a9 : FVec Ideal S3x8x128 .f32) : FVec Ideal S3072x128 .f32 :=
  addf (addf (addf (broadcastInDim S3072x128 ![] bcast_S_S3072x128 (constant S_ .f32 0x00000000#32))
    (rEmb a2 a9 0 slices_S3072x3_S3072x1_0_0 slices_S3x8x128_S1x8x128_0_0_0))
    (rEmb a2 a9 1 slices_S3072x3_S3072x1_0_1 slices_S3x8x128_S1x8x128_1_0_0))
    (rEmb a2 a9 2 slices_S3072x3_S3072x1_0_2 slices_S3x8x128_S1x8x128_2_0_0)

/-- The three looked-up rows, added up. -/
theorem bonds_at {a2 : IVec S3072x3 32} {a9 : FVec Ideal S3x8x128 .f32} {r : Fin 3072} (n : Fin 3 → Fin 8) (T : Fin 3 → Fin 8 → Fin 128 → ℝ)
    (h : ∀ f, a2 (ix2 r f) = BitVec.ofNat 32 (n f).val) (ht : ∀ f a c, a9 (ix3 f a c) = (T f a c : EReal)) (c : Fin 128) :
    rBonds a2 a9 (ix2 r c) = ((∑ f, T f (n f) c : ℝ) : EReal) := by
  have he : ∀ (f : ℕ) (hf : f < 3) hs hc, rEmb a2 a9 f hs hc (ix2 r c) = (T ⟨f, hf⟩ (n ⟨f, hf⟩) c : EReal) := fun f hf hs hc =>
    (emb_at f hf hs hc c (h ⟨f, hf⟩)).trans (ht _ _ _)
  pointwise [rBonds]
  rw [he 0 (by omega), he 1 (by omega), he 2 (by omega)]
  simp only [← EReal.coe_add, Fin.sum_univ_three]
  rfl

/-- The differences of every two atoms' positions. -/
def rDiff (a3 : FVec Ideal S768x3 .f32) : FVec Ideal S16x48x48x3 .f32 :=
  subf (broadcastInDim S16x48x48x3 ![0, 1, 2, 3] bcast_S16x48x1x3_S16x48x48x3_0_1_2_3
      (broadcastInDim S16x48x1x3 ![0, 1, 3] bcast_S16x48x3_S16x48x1x3_0_1_3 (shapeCast S16x48x3 a3 shapeCasts_S768x3_S16x48x3)))
    (broadcastInDim S16x48x48x3 ![0, 1, 2, 3] bcast_S16x1x48x3_S16x48x48x3_0_1_2_3
      (broadcastInDim S16x1x48x3 ![0, 2, 3] bcast_S16x48x3_S16x1x48x3_0_2_3 (shapeCast S16x48x3 a3 shapeCasts_S768x3_S16x48x3)))

/-- The distances of every two atoms. -/
def rDist (a3 : FVec Ideal S768x3 .f32) : FVec Ideal S16x48x48 .f32 :=
  Host.sqrt (addf (Host.reduceAdd (mulf (rDiff a3) (rDiff a3)) (constant S_ .f32 0x00000000#32) reducesTo_S16x48x48x3_S16x48x48_d3 h_S_)
    (broadcastInDim S16x48x48 ![] bcast_S_S16x48x48 (constant S_ .f32 0x3089705F#32)))

/-- How far the distances are from the centres. -/
def rOff (a3 : FVec Ideal S768x3 .f32) (a10 : FVec Ideal S16 .f32) : FVec Ideal S16x48x48x16 .f32 :=
  subf (broadcastInDim S16x48x48x16 ![0, 1, 2, 3] bcast_S16x48x48x1_S16x48x48x16_0_1_2_3
      (broadcastInDim S16x48x48x1 ![0, 1, 2] bcast_S16x48x48_S16x48x48x1_0_1_2 (rDist a3)))
    (broadcastInDim S16x48x48x16 ![0, 1, 2, 3] bcast_S1x1x1x16_S16x48x48x16_0_1_2_3 (broadcastInDim S1x1x1x16 ![3] bcast_S16_S1x1x1x16_3 a10))

/-- The distances' radial basis features through their matrix. -/
def rFar (a3 : FVec Ideal S768x3 .f32) (a10 : FVec Ideal S16 .f32) (a11 : FVec Ideal S16x128 .f32) : FVec Ideal S16x48x48x128 .f32 :=
  Host.dotGeneral dot_S16x48x48x16_S16x128_S16x48x48x128_3_0_012_1_n_n none (Host.exp (mulf
    (broadcastInDim S16x48x48x16 ![] bcast_S_S16x48x48x16 (constant S_ .f32 0xC1200000#32)) (mulf (rOff a3 a10) (rOff a3 a10)))) a11

/-- The initial pair features as the reference computes them. -/
def rE0 (a2 : IVec S3072x3 32) (a3 : FVec Ideal S768x3 .f32) (a4 : IVec S2x3072 32) (a5 : IVec S768 32) (a9 : FVec Ideal S3x8x128 .f32)
    (a10 : FVec Ideal S16 .f32) (a11 : FVec Ideal S16x128 .f32) : FVec Ideal S16x48x48x128 .f32 :=
  Host.scatterAdd dSc (rFar a3 a10 a11) (rWhere a4 a5) (rBonds a2 a9)

/-- The positions, split into graphs. -/
theorem pos_line (a3 : FVec Ideal S768x3 .f32) (b : Fin 16) (i : Fin 48) (d : Fin 3) (r : Fin 768) (hr : r.val = 48 * b.val + i.val) :
    shapeCast S16x48x3 a3 shapeCasts_S768x3_S16x48x3 (ix3 b i d) = a3 (ix2 r d) := by
  have e : (⟨b.val * 48 + i.val, by omega⟩ : Fin 768) = r := Fin.ext (by simp only; omega)
  pointwise
  rw [e]

variable {a0 : IVec S768x9 32} {a1 : FVec Ideal S768 .f32} {a2 : IVec S3072x3 32} {a3 : FVec Ideal S768x3 .f32} {a4 : IVec S2x3072 32}
  {a5 : IVec S768 32} {a6 : FVec Ideal S9x32x128 .f32} {a7 : FVec Ideal S16 .f32} {a8 : FVec Ideal S16x128 .f32}
  {a9 : FVec Ideal S3x8x128 .f32} {a10 : FVec Ideal S16 .f32} {a11 : FVec Ideal S16x128 .f32} {a12 a13 a14 a15 : FVec Ideal S6x128x128 .f32}
  {a16 : FVec Ideal S6x128x8 .f32} {a17 : FVec Ideal S6x128x128 .f32} {P : Params} {G : Fin 16 → Graph}

/-- The difference of two atoms' positions. -/
theorem diff_at (A : Args a0 a1 a2 a3 a4 a5 a6 a7 a8 a9 a10 a11 a12 a13 a14 a15 a16 a17 P G) (b : Fin 16) (i j : Fin 48) (d : Fin 3) :
    rDiff a3 (ix4 b i j d) = (G b).pos i d - (G b).pos j d := by
  have h : ∀ i, shapeCast S16x48x3 a3 shapeCasts_S768x3_S16x48x3 (ix3 b i d) = (G b).pos i d := fun i =>
    (pos_line a3 b i d ⟨48 * b.val + i.val, by omega⟩ rfl).trans (A.pos b i d _ rfl)
  have hp : rDiff a3 (ix4 b i j d) = shapeCast S16x48x3 a3 shapeCasts_S768x3_S16x48x3 (ix3 b i d)
      - shapeCast S16x48x3 a3 shapeCasts_S768x3_S16x48x3 (ix3 b j d) := by
    unfold rDiff
    generalize shapeCast S16x48x3 a3 shapeCasts_S768x3_S16x48x3 = X
    pointwise
  rw [hp, h i, h j]

/-- The distance of two atoms. -/
theorem dist_at (A : Args a0 a1 a2 a3 a4 a5 a6 a7 a8 a9 a10 a11 a12 a13 a14 a15 a16 a17 P G) (b : Fin 16) (i j : Fin 48) :
    rDist a3 (ix3 b i j) = dist (G b) i j := by
  pointwise [rDist]
  simp only [diff_at A]
  rfl

/-- The distance's radial basis through its matrix. -/
theorem far_at (A : Args a0 a1 a2 a3 a4 a5 a6 a7 a8 a9 a10 a11 a12 a13 a14 a15 a16 a17 P G) (b : Fin 16) (i j : Fin 48) (c : Fin 128) :
    rFar a3 a10 a11 (ix4 b i j c) = (rbf (dist (G b) i j) P.dc P.dW c : EReal) := by
  pointwise [rFar, rOff]
  simp only [dist_at A, A.dc, A.dW]
  exact rbf_coe (dist (G b) i j) P.dc P.dW c

/-- The reference's initial pair features are the real ones. -/
theorem e0_holds (A : Args a0 a1 a2 a3 a4 a5 a6 a7 a8 a9 a10 a11 a12 a13 a14 a15 a16 a17 P G) :
    HoldsE (rE0 a2 a3 a4 a5 a9 a10 a11) fun b => initE P (G b) := by
  intro b i j c
  refine (scatter_sum (where_names A) _ _ b i j c).trans ?_
  have hb : ∀ e : Fin 192, rBonds a2 a9 (ix2 ⟨192 * b.val + e.val, by omega⟩ c) = (bond P (G b) e c : EReal) := fun e =>
    bonds_at (fun f => (G b).bf e f) P.bt (fun f => A.bf b e f _ rfl) A.bt c
  simp only [hb]
  rw [far_at A]
  have hs : (∑ e : Fin 192, if (G b).src e = i ∧ (G b).dst e = j then (bond P (G b) e c : EReal) else 0)
      = ((∑ e, if (G b).src e = i ∧ (G b).dst e = j then bond P (G b) e c else 0 : ℝ) : EReal) := by
    rw [coe_sum]
    refine Finset.sum_congr rfl fun e _ => ?_
    split <;> simp
  rw [hs, ← EReal.coe_add]
  rfl

end Cert.Proof.RefStart

end
-- ==== Proof.RefStack.lean ====
/- The reference's whole result: six layers on the embeddings. -/
module

public import proofs.«01_k».proof.Proof.RefStart
public import proofs.«01_k».proof.Proof.KernelArray
public import proofs.«01_k».proof.Proof.Gen.ReferenceIdeal.Run

@[expose] public section

set_option maxRecDepth 16384

noncomputable section

open scoped BigOperators

namespace Cert.Proof.RefStack

open Idealize.ShloMosaic Idealize.ShloMosaic.TcCoe Cert.ReferenceIdeal Cert.ReferenceIdeal.Gen Cert.ReferenceIdeal.Value Cert.Proof.Spec
open Cert.Proof.RefLayer Cert.Proof.RefNodes Cert.Proof.RefStart

/-- Layer `l`'s matrix. -/
def rW (l : ℕ) (hs : S6x128x128.Slices ![l, 0, 0] S1x128x128) (a : FVec Ideal S6x128x128 .f32) : FVec Ideal S128x128 .f32 :=
  shapeCast S128x128 (extractStridedSlice S1x128x128 ![l, 0, 0] a hs) shapeCasts_S1x128x128_S128x128
/-- Layer `l`'s bias matrix. -/
def rB (l : ℕ) (hs : S6x128x8.Slices ![l, 0, 0] S1x128x8) (a : FVec Ideal S6x128x8 .f32) : FVec Ideal S128x8 .f32 :=
  shapeCast S128x8 (extractStridedSlice S1x128x8 ![l, 0, 0] a hs) shapeCasts_S1x128x8_S128x8

/-- One layer's matrix without its leading axis. -/
theorem drop_lead (X : FVec Ideal S1x128x128 .f32) (i c : Fin 128) :
    shapeCast S128x128 X shapeCasts_S1x128x128_S128x128 (ix2 i c) = X (ix3 0 i c) := by
  pointwise

/-- The same of the bias matrix. -/
theorem drop_lead' (X : FVec Ideal S1x128x8 .f32) (i : Fin 128) (c : Fin 8) :
    shapeCast S128x8 X shapeCasts_S1x128x8_S128x8 (ix2 i c) = X (ix3 0 i c) := by
  pointwise

/-- A layer's matrix cut from the stack of six holds that layer's weights. -/
theorem rW_holds (l : ℕ) (hl : l < 6) (hs) {a : FVec Ideal S6x128x128 .f32} {V : Fin 6 → Fin 128 → Fin 128 → ℝ}
    (h : ∀ l k c, a (ix3 l k c) = (V l k c : EReal)) : HoldsW (rW l hs a) (V ⟨l, hl⟩) := by
  intro i c
  refine (drop_lead _ i c).trans (Eq.trans (congrArg a ?_) (h ⟨l, hl⟩ i c))
  funext a
  refine Fin.ext ?_
  fin_cases a <;> simp

/-- The same of the bias matrix. -/
theorem rB_holds (l : ℕ) (hl : l < 6) (hs) {a : FVec Ideal S6x128x8 .f32} {V : Fin 6 → Fin 128 → Fin 8 → ℝ}
    (h : ∀ l k c, a (ix3 l k c) = (V l k c : EReal)) : HoldsW (rB l hs a) (V ⟨l, hl⟩) := by
  intro i c
  refine (drop_lead' _ i c).trans (Eq.trans (congrArg a ?_) (h ⟨l, hl⟩ i c))
  funext a
  refine Fin.ext ?_
  fin_cases a <;> simp

variable {V0 : Valuation τ sig (Elt Ideal)} {P : Params} {G : Fin 16 → Graph}

/-- The reference's arguments hold the graphs and the parameters. -/
abbrev ArgsOf (V0 : Valuation τ sig (Elt Ideal)) (P : Params) (G : Fin 16 → Graph) : Prop :=
  Args (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7))
    (V0 (Proc.devRef .tc main_arg8)) (V0 (Proc.devRef .tc main_arg9)) (V0 (Proc.devRef .tc main_arg10)) (V0 (Proc.devRef .tc main_arg11))
    (V0 (Proc.devRef .tc main_arg12)) (V0 (Proc.devRef .tc main_arg13)) (V0 (Proc.devRef .tc main_arg14)) (V0 (Proc.devRef .tc main_arg15))
    (V0 (Proc.devRef .tc main_arg16)) (V0 (Proc.devRef .tc main_arg17)) P G

/-- Layer `l` of the reference on node features. -/
def nextX (V0 : Valuation τ sig (Elt Ideal)) (l : ℕ) (hs : S6x128x128.Slices ![l, 0, 0] S1x128x128) (hb : S6x128x8.Slices ![l, 0, 0] S1x128x8)
    (x : FVec Ideal S16x48x128 .f32) (e : FVec Ideal S16x48x48x128 .f32) : FVec Ideal S16x48x128 .f32 :=
  rX (rW l hs (V0 (Proc.devRef .tc main_arg12))) (rW l hs (V0 (Proc.devRef .tc main_arg13))) (rW l hs (V0 (Proc.devRef .tc main_arg14)))
    (rW l hs (V0 (Proc.devRef .tc main_arg15))) (rB l hb (V0 (Proc.devRef .tc main_arg16))) x e
/-- Layer `l` of the reference on pair features, from the new node features. -/
def nextE (V0 : Valuation τ sig (Elt Ideal)) (l : ℕ) (hs : S6x128x128.Slices ![l, 0, 0] S1x128x128)
    (x : FVec Ideal S16x48x128 .f32) (e : FVec Ideal S16x48x48x128 .f32) : FVec Ideal S16x48x48x128 .f32 :=
  rE (rW l hs (V0 (Proc.devRef .tc main_arg17))) x e

/-- The features of all graphs after `n` layers. -/
def NodesAt (P : Params) (G : Fin 16 → Graph) (n : ℕ) (x : FVec Ideal S16x48x128 .f32) : Prop := HoldsX x fun b => (feats P (G b) n).1
/-- An array holds the pair features after `n` layers. -/
def PairsAt (P : Params) (G : Fin 16 → Graph) (n : ℕ) (e : FVec Ideal S16x48x48x128 .f32) : Prop := HoldsE e fun b => (feats P (G b) n).2

/-- A layer of the reference takes the features after `l` layers to the node features after `l + 1`. -/
theorem stepX (A : ArgsOf V0 P G) (l : ℕ) (hl : l < 6) (hs hb) {x : FVec Ideal S16x48x128 .f32} {e : FVec Ideal S16x48x48x128 .f32}
    (hx : NodesAt P G l x) (he : PairsAt P G l e) : NodesAt P G (l + 1) (nextX V0 l hs hb x e) := by
  have hf : Fin.ofNat 6 l = ⟨l, hl⟩ := Fin.ext (Nat.mod_eq_of_lt hl)
  have hq := rW_holds l hl hs (V := fun l => (P.w l).q) A.q
  have hk := rW_holds l hl hs (V := fun l => (P.w l).k) A.k
  have hv := rW_holds l hl hs (V := fun l => (P.w l).v) A.v
  have ho := rW_holds l hl hs (V := fun l => (P.w l).o) A.o
  have hb := rB_holds l hl hb (V := fun l => (P.w l).b) A.b
  simp only [← hf] at hq hk hv ho hb
  exact x_holds hq hk hv ho hb hx he

/-- And to the pair features after `l + 1`. -/
theorem stepE (A : ArgsOf V0 P G) (l : ℕ) (hl : l < 6) (hs) {x : FVec Ideal S16x48x128 .f32} {e : FVec Ideal S16x48x48x128 .f32}
    (hx : NodesAt P G (l + 1) x) (he : PairsAt P G l e) : PairsAt P G (l + 1) (nextE V0 l hs x e) := by
  have hf : Fin.ofNat 6 l = ⟨l, hl⟩ := Fin.ext (Nat.mod_eq_of_lt hl)
  have hw := rW_holds l hl hs (V := fun l => (P.w l).e) A.e
  simp only [← hf] at hw
  exact e_holds hw hx he

/-- The reference's embeddings. -/
theorem nodes0 (A : ArgsOf V0 P G) : NodesAt P G 0 (res_main_v143 V0) := x0_holds A
/-- The initial pair features. -/
theorem pairs0 (A : ArgsOf V0 P G) : PairsAt P G 0 (res_main_v142 V0) := e0_holds A

/-- The features after each layer. -/
theorem nodes1 (A : ArgsOf V0 P G) : NodesAt P G 1 (res_main_v199 V0) :=
  stepX A 0 (by norm_num) slices_S6x128x128_S1x128x128_0_0_0 slices_S6x128x8_S1x128x8_0_0_0 (nodes0 A) (pairs0 A)
/-- The pair features after 1 layer. -/
theorem pairs1 (A : ArgsOf V0 P G) : PairsAt P G 1 (res_main_v210 V0) :=
  stepE A 0 (by norm_num) slices_S6x128x128_S1x128x128_0_0_0 (nodes1 A) (pairs0 A)
/-- The node features after 2 layers. -/
theorem nodes2 (A : ArgsOf V0 P G) : NodesAt P G 2 (res_main_v266 V0) :=
  stepX A 1 (by norm_num) slices_S6x128x128_S1x128x128_1_0_0 slices_S6x128x8_S1x128x8_1_0_0 (nodes1 A) (pairs1 A)
/-- The pair features after 2 layers. -/
theorem pairs2 (A : ArgsOf V0 P G) : PairsAt P G 2 (res_main_v277 V0) :=
  stepE A 1 (by norm_num) slices_S6x128x128_S1x128x128_1_0_0 (nodes2 A) (pairs1 A)
/-- The node features after 3 layers. -/
theorem nodes3 (A : ArgsOf V0 P G) : NodesAt P G 3 (res_main_v333 V0) :=
  stepX A 2 (by norm_num) slices_S6x128x128_S1x128x128_2_0_0 slices_S6x128x8_S1x128x8_2_0_0 (nodes2 A) (pairs2 A)
/-- The pair features after 3 layers. -/
theorem pairs3 (A : ArgsOf V0 P G) : PairsAt P G 3 (res_main_v344 V0) :=
  stepE A 2 (by norm_num) slices_S6x128x128_S1x128x128_2_0_0 (nodes3 A) (pairs2 A)
/-- The node features after 4 layers. -/
theorem nodes4 (A : ArgsOf V0 P G) : NodesAt P G 4 (res_main_v400 V0) :=
  stepX A 3 (by norm_num) slices_S6x128x128_S1x128x128_3_0_0 slices_S6x128x8_S1x128x8_3_0_0 (nodes3 A) (pairs3 A)
/-- The pair features after 4 layers. -/
theorem pairs4 (A : ArgsOf V0 P G) : PairsAt P G 4 (res_main_v411 V0) :=
  stepE A 3 (by norm_num) slices_S6x128x128_S1x128x128_3_0_0 (nodes4 A) (pairs3 A)
/-- The node features after 5 layers. -/
theorem nodes5 (A : ArgsOf V0 P G) : NodesAt P G 5 (res_main_v467 V0) :=
  stepX A 4 (by norm_num) slices_S6x128x128_S1x128x128_4_0_0 slices_S6x128x8_S1x128x8_4_0_0 (nodes4 A) (pairs4 A)
/-- The pair features after 5 layers. -/
theorem pairs5 (A : ArgsOf V0 P G) : PairsAt P G 5 (res_main_v478 V0) :=
  stepE A 4 (by norm_num) slices_S6x128x128_S1x128x128_4_0_0 (nodes5 A) (pairs4 A)
/-- The node features after 6 layers. -/
theorem nodes6 (A : ArgsOf V0 P G) : NodesAt P G 6 (res_main_v534 V0) :=
  stepX A 5 (by norm_num) slices_S6x128x128_S1x128x128_5_0_0 slices_S6x128x8_S1x128x8_5_0_0 (nodes5 A) (pairs5 A)

/-- Two graphs' rows put one under the other. -/
theorem two_lines (X : FVec Ideal S16x48x128 .f32) (t : Fin 8) (r : Fin 96) (c : Fin 128) (b : Fin 16) (i : Fin 48)
    (h : b.val * 48 + i.val = t.val * 96 + r.val) :
    shapeCast S8x96x128 X shapeCasts_S16x48x128_S8x96x128 (ix3 t r c) = X (ix3 b i c) := by
  have eb : (⟨t.val * 2 + r.val / 48, by omega⟩ : Fin 16) = b := Fin.ext (by simp only; omega)
  have ei : (⟨r.val % 48, by omega⟩ : Fin 48) = i := Fin.ext (by simp only; omega)
  pointwise
  rw [eb, ei]

/-- The reference's result array is the encoder's result for all sixteen graphs. -/
theorem final (A : ArgsOf V0 P G) :
    (shapeCast S8x96x128 (res_main_v534 V0) shapeCasts_S16x48x128_S8x96x128 : FVec Ideal S8x96x128 .f32) = KernelArray.result P G := by
  funext y
  idx_vars y
  refine (two_lines _ y0 y1 y2 ⟨2 * y0.val + y1.val / 48, by omega⟩ ⟨y1.val % 48, by omega⟩ (by simp only; omega)).trans ?_
  exact nodes6 A _ _ _

end Cert.Proof.RefStack

end
-- ==== Proof.Drawn.lean ====
/- What the precondition says of the arguments: the graphs and the parameters they hold. -/
module

public import proofs.«01_k».proof.Pre_as_drawn
public import proofs.«01_k».proof.Proof.Gen.Pre_as_drawn
public import proofs.«01_k».proof.Proof.Args
public import Idealize.ShloMosaic.Lib.Pointwise
public import Idealize.ShloMosaic.Lib.ReduceAll
public import Idealize.ShloMosaic.Lib.Affine

@[expose] public section

set_option maxRecDepth 16384

noncomputable section

namespace Cert.Proof.Drawn

open Idealize.ShloMosaic Cert.Pre_as_drawn Cert.Pre_as_drawn.Gen Cert.Proof.Spec

/-- A float below infinity in size is a real. -/
theorem real_of_lt {x : EReal} (h : Ideal.cmp .olt (max x (-x)) (Ideal.ofBits .f32 0x7F800000#32) = 1#1) : x = ((x.toReal : ℝ) : EReal) := by
  rw [bits_top] at h
  have h' : max x (-x) < ⊤ := by
    by_contra hn
    simp [Ideal.cmp, hn] at h
  refine (EReal.coe_toReal ?_ ?_).symm
  · rintro rfl
    simp at h'
  · rintro rfl
    simp at h'

/-- A word between a number and a range beyond it, as a number. -/
theorem word_of_range {w : BitVec 32} (lo n : ℕ) (h0 : (lo : Int) ≤ w.toInt) (h1 : w.toInt < lo + n) :
    w = BitVec.ofNat 32 (lo + (w.toNat - lo) % n) := by
  have hw := w.isLt
  have ht := BitVec.toInt_eq_toNat_cond w
  have hm : (w.toNat - lo) % n = w.toNat - lo := Nat.mod_eq_of_lt (by split at ht <;> omega)
  rw [hm]
  refine BitVec.eq_of_toNat_eq ?_
  rw [BitVec.toNat_ofNat, Nat.mod_eq_of_lt (by split at ht <;> omega)]
  split at ht <;> omega

/-- The first node of a bond's graph, as the precondition computes it. -/
def firstOf : IVec S3072 32 :=
  muli (fn_floor_divide (F := Ideal) (iotaInDim S3072 32 0) (constantI S_ 32 192#32)) (broadcastInDim S3072 ![] bcast_S_S3072 (constantI S_ 32 48#32))

/-- A bond's first node number, as the precondition divides it out. -/
theorem firstOf_at (r : Fin 3072) : firstOf (ix1 r) = BitVec.ofNat 32 (48 * (r.val / 192)) := by
  pointwise [firstOf, fn_floor_divide, fn_where]
  revert r
  decide +kernel

/-- The graph of a node, as the precondition computes it. -/
def graphOf : IVec S768 32 := fn_floor_divide_0 (F := Ideal) (iotaInDim S768 32 0) (constantI S_ 32 48#32)

/-- A node's graph, as the precondition divides it out. -/
theorem graphOf_at (r : Fin 768) : graphOf (ix1 r) = BitVec.ofNat 32 (r.val / 48) := by
  pointwise [graphOf, fn_floor_divide_0, fn_where_1]
  revert r
  decide +kernel

variable {a0 : IVec S768x9 32} {a1 : FVec Ideal S768 .f32} {a2 : IVec S3072x3 32} {a3 : FVec Ideal S768x3 .f32} {a4 : IVec S2x3072 32}
  {a5 : IVec S768 32} {a6 : FVec Ideal S9x32x128 .f32} {a7 : FVec Ideal S16 .f32} {a8 : FVec Ideal S16x128 .f32}
  {a9 : FVec Ideal S3x8x128 .f32} {a10 : FVec Ideal S16 .f32} {a11 : FVec Ideal S16x128 .f32} {a12 a13 a14 a15 : FVec Ideal S6x128x128 .f32}
  {a16 : FVec Ideal S6x128x8 .f32} {a17 : FVec Ideal S6x128x128 .f32}

/-- The arguments as the precondition leaves them: integers in their ranges, tables and weights real. -/
structure Ranges (a0 : IVec S768x9 32) (a1 : FVec Ideal S768 .f32) (a2 : IVec S3072x3 32) (a3 : FVec Ideal S768x3 .f32) (a4 : IVec S2x3072 32)
    (a5 : IVec S768 32) (a6 : FVec Ideal S9x32x128 .f32) (a7 : FVec Ideal S16 .f32) (a8 : FVec Ideal S16x128 .f32)
    (a9 : FVec Ideal S3x8x128 .f32) (a10 : FVec Ideal S16 .f32) (a11 : FVec Ideal S16x128 .f32) (a12 a13 a14 a15 : FVec Ideal S6x128x128 .f32)
    (a16 : FVec Ideal S6x128x8 .f32) (a17 : FVec Ideal S6x128x128 .f32) : Prop where
  af : ∀ i, 0 ≤ (a0 i).toInt ∧ (a0 i).toInt < 32
  bf : ∀ i, 0 ≤ (a2 i).toInt ∧ (a2 i).toInt < 8
  ends : ∀ (k : Fin 2) (r : Fin 3072), (48 * (r.val / 192) : ℕ) ≤ (a4 (ix2 k r)).toInt ∧ (a4 (ix2 k r)).toInt < (48 * (r.val / 192) : ℕ) + (48 : ℕ)
  graph : ∀ r : Fin 768, a5 (ix1 r) = BitVec.ofNat 32 (r.val / 48)
  r6 : ∀ i, a6 i = (((a6 i).toReal : ℝ) : EReal)
  r8 : ∀ i, a8 i = (((a8 i).toReal : ℝ) : EReal)
  r9 : ∀ i, a9 i = (((a9 i).toReal : ℝ) : EReal)
  r11 : ∀ i, a11 i = (((a11 i).toReal : ℝ) : EReal)
  r12 : ∀ i, a12 i = (((a12 i).toReal : ℝ) : EReal)
  r13 : ∀ i, a13 i = (((a13 i).toReal : ℝ) : EReal)
  r14 : ∀ i, a14 i = (((a14 i).toReal : ℝ) : EReal)
  r15 : ∀ i, a15 i = (((a15 i).toReal : ℝ) : EReal)
  r16 : ∀ i, a16 i = (((a16 i).toReal : ℝ) : EReal)
  r17 : ∀ i, a17 i = (((a17 i).toReal : ℝ) : EReal)

/-- A small word's signed value. -/
theorem small {n : ℕ} (hn : n < 2000) : (BitVec.ofNat 32 n).toInt = (n : Int) := by
  have h := BitVec.toInt_eq_toNat_cond (BitVec.ofNat 32 n)
  rw [BitVec.toNat_ofNat, Nat.mod_eq_of_lt (by omega)] at h
  split at h <;> omega

/-- A conjunction of two conditions holds where both do. -/
theorem both (x y : IVec S_ 1) (j : S_.Idx) : andi x y j = 1#1 ↔ x j = 1#1 ∧ y j = 1#1 := IntOp.andi_eq_one

/-- An array all of whose sizes are below infinity is real. -/
theorem real_at {s : Shape} {x : FVec Ideal s .f32} {ax : List (Fin s.rank)} {hb : S_.BroadcastsInDim s ![]} {hr : s.ReducesTo ax S_} {j : S_.Idx}
    (h : Host.reduce IntOp.andi (cmpf .olt (Host.absf x) (broadcastInDim s ![] hb (constant S_ .f32 0x7F800000#32))) (constantI S_ 1 1#1)
      hr h_S_ j = 1#1) (i : s.Idx) : x i = (((x i).toReal : ℝ) : EReal) :=
  real_of_lt (Host.reduce_andi_all _ _ _ _ j h i)

/-- A bond's first node and the one after its graph's last, laid out as the precondition compares with them. -/
theorem first_line (X : IVec S3072 32) (k : Fin 2) (r : Fin 3072) :
    broadcastInDim S2x3072 ![0, 1] bcast_S1x3072_S2x3072_0_1 (broadcastInDim S1x3072 ![1] bcast_S3072_S1x3072_1 X) (ix2 k r) = X (ix1 r) := by
  pointwise

/-- The node after the graph's last, laid out as the precondition compares with it. -/
theorem last_line (X : IVec S3072 32) (k : Fin 2) (r : Fin 3072) :
    broadcastInDim S2x3072 ![0, 1] bcast_S1x3072_S2x3072_0_1 (addi (broadcastInDim S1x3072 ![1] bcast_S3072_S1x3072_1 X)
      (broadcastInDim S1x3072 ![] bcast_S_S1x3072 (constantI S_ 32 48#32))) (ix2 k r) = X (ix1 r) + 48#32 := by
  pointwise
  rfl

/-- The precondition's parts. -/
theorem ranges (h : fn (F := Ideal) a0 a1 a2 a3 a4 a5 a6 a7 a8 a9 a10 a11 a12 a13 a14 a15 a16 a17 = fun _ => 1#1) : Ranges a0 a1 a2 a3 a4 a5 a6 a7 a8 a9 a10 a11 a12 a13 a14 a15 a16 a17 := by
  have e := congrFun h (fun a => a.elim0)
  simp only [fn, fn_part1, fn_part2, fn_part3, fn_part4, both] at e
  obtain ⟨⟨⟨⟨⟨⟨⟨⟨⟨⟨⟨⟨⟨h0, h2⟩, h4⟩, h5⟩, h6⟩, h8⟩, h9⟩, h11⟩, h12⟩, h13⟩, h14⟩, h15⟩, h16⟩, h17⟩ := e
  refine ⟨fun i => ?_, fun i => ?_, fun k r => ?_, fun r => ?_, real_at h6, real_at h8, real_at h9, real_at h11,
    real_at h12, real_at h13, real_at h14, real_at h15, real_at h16, real_at h17⟩
  · obtain ⟨u, v⟩ := IntOp.andi_eq_one.1 (Host.reduce_andi_all _ _ _ _ _ h0 i)
    exact ⟨IntOp.cmpi_sge.1 u, IntOp.cmpi_slt.1 v⟩
  · obtain ⟨u, v⟩ := IntOp.andi_eq_one.1 (Host.reduce_andi_all _ _ _ _ _ h2 i)
    exact ⟨IntOp.cmpi_sge.1 u, IntOp.cmpi_slt.1 v⟩
  · obtain ⟨u, v⟩ := IntOp.andi_eq_one.1 (Host.reduce_andi_all _ _ _ _ _ h4 (ix2 k r))
    have u := IntOp.cmpi_sge.1 u
    have v := IntOp.cmpi_slt.1 v
    rw [first_line] at u
    rw [last_line] at v
    change (firstOf (ix1 r)).toInt ≤ _ at u
    change _ < (firstOf (ix1 r) + 48#32).toInt at v
    rw [firstOf_at, small (by omega)] at u
    rw [firstOf_at, ← BitVec.ofNat_add, small (by omega), Nat.cast_add] at v
    exact ⟨u, v⟩
  · exact (IntOp.cmpi_eq.1 (Host.reduce_andi_all _ _ _ _ _ h5 (ix1 r))).trans (graphOf_at r)

/-- The graphs that the arguments hold. -/
def graphs (a0 : IVec S768x9 32) (a1 : FVec Ideal S768 .f32) (a2 : IVec S3072x3 32) (a3 : FVec Ideal S768x3 .f32) (a4 : IVec S2x3072 32)
    (b : Fin 16) : Graph where
  af i f := Fin.ofNat 32 (a0 (ix2 ⟨48 * b.val + i.val, by omega⟩ f)).toNat
  mass i := a1 (ix1 ⟨48 * b.val + i.val, by omega⟩)
  pos i d := a3 (ix2 ⟨48 * b.val + i.val, by omega⟩ d)
  bf e f := Fin.ofNat 8 (a2 (ix2 ⟨192 * b.val + e.val, by omega⟩ f)).toNat
  src e := Fin.ofNat 48 ((a4 (ix2 0 ⟨192 * b.val + e.val, by omega⟩)).toNat - 48 * b.val)
  dst e := Fin.ofNat 48 ((a4 (ix2 1 ⟨192 * b.val + e.val, by omega⟩)).toNat - 48 * b.val)

/-- The parameters that the arguments hold. -/
def params (a6 : FVec Ideal S9x32x128 .f32) (a7 : FVec Ideal S16 .f32) (a8 : FVec Ideal S16x128 .f32)
    (a9 : FVec Ideal S3x8x128 .f32) (a10 : FVec Ideal S16 .f32) (a11 : FVec Ideal S16x128 .f32) (a12 a13 a14 a15 : FVec Ideal S6x128x128 .f32)
    (a16 : FVec Ideal S6x128x8 .f32) (a17 : FVec Ideal S6x128x128 .f32) : Params where
  at_ f k c := (a6 (ix3 f k c)).toReal
  mc k := a7 (ix1 k)
  mW k c := (a8 (ix2 k c)).toReal
  bt f k c := (a9 (ix3 f k c)).toReal
  dc k := a10 (ix1 k)
  dW k c := (a11 (ix2 k c)).toReal
  w l :=
    { q := fun k c => (a12 (ix3 l k c)).toReal
      k := fun k c => (a13 (ix3 l k c)).toReal
      v := fun k c => (a14 (ix3 l k c)).toReal
      o := fun k c => (a15 (ix3 l k c)).toReal
      b := fun k c => (a16 (ix3 l k c)).toReal
      e := fun k c => (a17 (ix3 l k c)).toReal }

/-- Arguments the precondition allows hold graphs and parameters. -/
theorem args (R : Ranges a0 a1 a2 a3 a4 a5 a6 a7 a8 a9 a10 a11 a12 a13 a14 a15 a16 a17) :
    Args a0 a1 a2 a3 a4 a5 a6 a7 a8 a9 a10 a11 a12 a13 a14 a15 a16 a17 (params a6 a7 a8 a9 a10 a11 a12 a13 a14 a15 a16 a17)
      (graphs a0 a1 a2 a3 a4) where
  af b i f r hr := by
    obtain ⟨r, hlt⟩ := r
    obtain rfl : r = 48 * b.val + i.val := hr
    have h := R.af (ix2 ⟨48 * b.val + i.val, by omega⟩ f)
    refine (word_of_range 0 32 h.1 (by omega)).trans ?_
    rw [Nat.zero_add]
    rfl
  mass b i r hr := by
    obtain ⟨r, hlt⟩ := r
    obtain rfl : r = 48 * b.val + i.val := hr
    rfl
  bf b e f r hr := by
    obtain ⟨r, hlt⟩ := r
    obtain rfl : r = 192 * b.val + e.val := hr
    have h := R.bf (ix2 ⟨192 * b.val + e.val, by omega⟩ f)
    refine (word_of_range 0 8 h.1 (by omega)).trans ?_
    rw [Nat.zero_add]
    rfl
  pos b i d r hr := by
    obtain ⟨r, hlt⟩ := r
    obtain rfl : r = 48 * b.val + i.val := hr
    rfl
  src b e r hr := by
    obtain ⟨r, hlt⟩ := r
    obtain rfl : r = 192 * b.val + e.val := hr
    have h := R.ends 0 ⟨192 * b.val + e.val, by omega⟩
    have hb : (192 * b.val + e.val) / 192 = b.val := by omega
    simp only [hb] at h
    exact word_of_range (48 * b.val) 48 h.1 h.2
  dst b e r hr := by
    obtain ⟨r, hlt⟩ := r
    obtain rfl : r = 192 * b.val + e.val := hr
    have h := R.ends 1 ⟨192 * b.val + e.val, by omega⟩
    have hb : (192 * b.val + e.val) / 192 = b.val := by omega
    simp only [hb] at h
    exact word_of_range (48 * b.val) 48 h.1 h.2
  graph b i r hr := (R.graph r).trans (congrArg _ (by omega))
  at_ _ _ _ := R.r6 _
  mc _ := rfl
  mW _ _ := R.r8 _
  bt _ _ _ := R.r9 _
  dc _ := rfl
  dW _ _ := R.r11 _
  q _ _ _ := R.r12 _
  k _ _ _ := R.r13 _
  v _ _ _ := R.r14 _
  o _ _ _ := R.r15 _
  b _ _ _ := R.r16 _
  e _ _ _ := R.r17 _

end Cert.Proof.Drawn

end
-- ==== Proof.lean ====
/- The parts of the certificate put together. At `Ideal` the kernel's result array and the reference's are one array of real numbers:
   `KernelArray.result` of the parameters and the sixteen graphs that the arguments hold. `KernelArray.final` says so of the
   kernel and `RefStack.final` of the reference; `Drawn` reads parameters and graphs off the arguments under the precondition. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_as_drawn
public import proofs.«01_k».proof.Proof.KernelArray
public import proofs.«01_k».proof.Proof.RefStack
public import proofs.«01_k».proof.Proof.Drawn
public import Idealize.ShloMosaic.Adequacy
public import Idealize.ShloMosaic.Init

@[expose] public section

noncomputable section

namespace Cert.Proof

open Idealize.ShloMosaic Idealize.SL.Sem Cert.Proof.Spec

/-- The kernel keeps its arguments, at every interpretation of its floats' arithmetic that the claim asks for. -/
theorem frame_p : Cert.quiescent_Kernel := fun m ρ _ => Cert.Kernel.Gen.frame m ρ

/-- The kernel at `Ideal` keeps its arguments. -/
theorem frame_pi : Cert.quiescent_KernelIdeal := fun m ρ _ => Cert.KernelIdeal.Gen.frame m ρ

/-- The reference at `Ideal` keeps its arguments, and its chip has no semaphore to leave nonzero. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The parameters that device `c`'s arguments hold. -/
def paramsAt (m : (ℓ : Loc Cert.KernelIdeal.nD Cert.KernelIdeal.τ Cert.KernelIdeal.sig) → Buf (Elt Ideal) ℓ) (c : Dev Cert.KernelIdeal.nD) : Params :=
  Drawn.params
    (m ((c.tc : Thread Cert.KernelIdeal.nD Cert.KernelIdeal.τ).loc Cert.KernelIdeal.main_arg6)) (m ((c.tc : Thread Cert.KernelIdeal.nD Cert.KernelIdeal.τ).loc Cert.KernelIdeal.main_arg7))
    (m ((c.tc : Thread Cert.KernelIdeal.nD Cert.KernelIdeal.τ).loc Cert.KernelIdeal.main_arg8)) (m ((c.tc : Thread Cert.KernelIdeal.nD Cert.KernelIdeal.τ).loc Cert.KernelIdeal.main_arg9))
    (m ((c.tc : Thread Cert.KernelIdeal.nD Cert.KernelIdeal.τ).loc Cert.KernelIdeal.main_arg10)) (m ((c.tc : Thread Cert.KernelIdeal.nD Cert.KernelIdeal.τ).loc Cert.KernelIdeal.main_arg11))
    (m ((c.tc : Thread Cert.KernelIdeal.nD Cert.KernelIdeal.τ).loc Cert.KernelIdeal.main_arg12)) (m ((c.tc : Thread Cert.KernelIdeal.nD Cert.KernelIdeal.τ).loc Cert.KernelIdeal.main_arg13))
    (m ((c.tc : Thread Cert.KernelIdeal.nD Cert.KernelIdeal.τ).loc Cert.KernelIdeal.main_arg14)) (m ((c.tc : Thread Cert.KernelIdeal.nD Cert.KernelIdeal.τ).loc Cert.KernelIdeal.main_arg15))
    (m ((c.tc : Thread Cert.KernelIdeal.nD Cert.KernelIdeal.τ).loc Cert.KernelIdeal.main_arg16)) (m ((c.tc : Thread Cert.KernelIdeal.nD Cert.KernelIdeal.τ).loc Cert.KernelIdeal.main_arg17))

/-- The sixteen graphs that device `c`'s arguments hold. -/
def graphsAt (m : (ℓ : Loc Cert.KernelIdeal.nD Cert.KernelIdeal.τ Cert.KernelIdeal.sig) → Buf (Elt Ideal) ℓ) (c : Dev Cert.KernelIdeal.nD) : Fin 16 → Graph :=
  Drawn.graphs
    (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4))

/-- Under the precondition the arguments hold those parameters and graphs. -/
theorem argsAt {m : (ℓ : Loc Cert.KernelIdeal.nD Cert.KernelIdeal.τ Cert.KernelIdeal.sig) → Buf (Elt Ideal) ℓ} (h : Cert.Pre_KernelIdeal_as_drawn m)
    (c : Dev Cert.KernelIdeal.nD) : KernelArray.ArgsAt m c (paramsAt m c) (graphsAt m c) :=
  Drawn.args (Drawn.ranges (h c))

/-- Arrays equal to arrays that hold parameters and graphs hold the same. -/
theorem args_of_eq {P : Params} {G : Fin 16 → Graph} {a0 a1 a2 a3 a4 a5 a6 a7 a8 a9 a10 a11 a12 a13 a14 a15 a16 a17
    b0 b1 b2 b3 b4 b5 b6 b7 b8 b9 b10 b11 b12 b13 b14 b15 b16 b17} (A : Args a0 a1 a2 a3 a4 a5 a6 a7 a8 a9 a10 a11 a12 a13 a14 a15 a16 a17 P G)
    (e : b0 = a0 ∧ b1 = a1 ∧ b2 = a2 ∧ b3 = a3 ∧ b4 = a4 ∧ b5 = a5 ∧ b6 = a6 ∧ b7 = a7 ∧ b8 = a8
    ∧ b9 = a9 ∧ b10 = a10 ∧ b11 = a11 ∧ b12 = a12 ∧ b13 = a13 ∧ b14 = a14 ∧ b15 = a15 ∧ b16 = a16 ∧ b17 = a17) :
    Args b0 b1 b2 b3 b4 b5 b6 b7 b8 b9 b10 b11 b12 b13 b14 b15 b16 b17 P G := by
  obtain ⟨rfl, rfl, rfl, rfl, rfl, rfl, rfl, rfl, rfl, rfl, rfl, rfl, rfl, rfl, rfl, rfl, rfl, rfl⟩ := e
  exact A

/-- At `Ideal` the kernel and the reference, on arguments that agree and lie as drawn, end with one result array. -/
theorem algebraic : Cert.algebraic_KernelIdeal_ReferenceIdeal_pre_as_drawn := by
  intro m ρ m' ρ' hpre hagree
  refine ⟨fun c => KernelArray.result (paramsAt m c) (graphsAt m c), ?_, ?_⟩
  · exact (θ_run Cert.KernelIdeal.defs _ _).mono
      (fun _ h c => ⟨(h c).1.trans (KernelArray.final c (argsAt hpre c)), (h c).2⟩)
      (Cert.KernelIdeal.Value.run_blocks (F := Ideal) m ρ)
  · exact (θ_run Cert.ReferenceIdeal.defs _ _).mono
      (fun _ h c => ⟨(h c).1.trans (RefStack.final (args_of_eq (argsAt hpre c) (hagree c))), (h c).2⟩)
      (Cert.ReferenceIdeal.Value.run (F := Ideal) m' ρ')

/-- The five claims, with the facts that the programs state. -/
theorem claim : Cert.Claim := ⟨Cert.Kernel.Gen.facts, Cert.KernelIdeal.Gen.facts, Cert.ReferenceIdeal.Gen.facts, Cert.Pre_as_drawn.Gen.facts,
  frame_p, frame_pi, fun m ρ _ => Cert.KernelIdeal.Gen.frame m ρ, frame_ri, fun m ρ _ => frame_ri m ρ trivial, trivial, algebraic⟩

end Cert.Proof

end
